-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S16384x26x16 : Shape := ⟨3, ![16384, 26, 16]⟩
abbrev S2x3x26x26 : Shape := ⟨4, ![2, 3, 26, 26]⟩
abbrev S1x2x1x32x16 : Shape := ⟨5, ![1, 2, 1, 32, 16]⟩
abbrev S2x1x26x16 : Shape := ⟨4, ![2, 1, 26, 16]⟩
abbrev S26 : Shape := ⟨1, ![26]⟩
abbrev S1664 : Shape := ⟨1, ![1664]⟩
abbrev S416x26 : Shape := ⟨2, ![416, 26]⟩
abbrev S_ : Shape := ⟨0, ![]⟩

class Facts : Prop where
  bcast_S_S16384x26x16 : S_.BroadcastsInDim S16384x26x16 (![] : Fin 0 → Fin S16384x26x16.rank)
  reducesTo_S16384x26x16_S_d0_1_2 : S16384x26x16.ReducesTo [0, 1, 2] S_
  h_S_ : 0 < S_.numel
  bcast_S_S2x3x26x26 : S_.BroadcastsInDim S2x3x26x26 (![] : Fin 0 → Fin S2x3x26x26.rank)
  reducesTo_S2x3x26x26_S_d0_1_2_3 : S2x3x26x26.ReducesTo [0, 1, 2, 3] S_
  bcast_S_S1x2x1x32x16 : S_.BroadcastsInDim S1x2x1x32x16 (![] : Fin 0 → Fin S1x2x1x32x16.rank)
  reducesTo_S1x2x1x32x16_S_d0_1_2_3_4 : S1x2x1x32x16.ReducesTo [0, 1, 2, 3, 4] S_
  bcast_S_S2x1x26x16 : S_.BroadcastsInDim S2x1x26x16 (![] : Fin 0 → Fin S2x1x26x16.rank)
  reducesTo_S2x1x26x16_S_d0_1_2_3 : S2x1x26x16.ReducesTo [0, 1, 2, 3] S_
  bcast_S_S26 : S_.BroadcastsInDim S26 (![] : Fin 0 → Fin S26.rank)
  reducesTo_S26_S_d0 : S26.ReducesTo [0] S_
  bcast_S_S1664 : S_.BroadcastsInDim S1664 (![] : Fin 0 → Fin S1664.rank)
  reducesTo_S1664_S_d0 : S1664.ReducesTo [0] S_
  bcast_S_S416x26 : S_.BroadcastsInDim S416x26 (![] : Fin 0 → Fin S416x26.rank)
  reducesTo_S416x26_S_d0_1 : S416x26.ReducesTo [0, 1] S_

variable [Facts]

def fn_part3 {F : FTy → Type} [FloatOps F] (main_arg10 : FVec F S416x26 .f32) (main_arg11 : FVec F S26 .f32) (main_v48 : IVec S_ 1) (main_v50 : FVec F S1664 .f32) : IVec S_ 1 :=
  let main_cst_19 : FVec F S_ .f32 := constant S_ .f32 0x00000000#32
  let main_v51 : FVec F S1664 .f32 := broadcastInDim S1664 ![] bcast_S_S1664 main_cst_19
  let main_v52 : IVec S1664 1 := cmpf .ogt main_v50 main_v51
  let main_c_20 : IVec S_ 1 := constantI S_ 1 1#1
  let main_v53 : IVec S_ 1 := (fun x v => Host.reduce IntOp.andi x v reducesTo_S1664_S_d0 h_S_) main_v52 main_c_20
  let main_v54 : IVec S_ 1 := andi main_v48 main_v53
  let main_v55 : FVec F S416x26 .f32 := Host.absf main_arg10
  let main_cst_21 : FVec F S_ .f32 := constant S_ .f32 0x7F800000#32
  let main_v56 : FVec F S416x26 .f32 := broadcastInDim S416x26 ![] bcast_S_S416x26 main_cst_21
  let main_v57 : IVec S416x26 1 := cmpf .olt main_v55 main_v56
  let main_c_22 : IVec S_ 1 := constantI S_ 1 1#1
  let main_v58 : IVec S_ 1 := (fun x v => Host.reduce IntOp.andi x v reducesTo_S416x26_S_d0_1 h_S_) main_v57 main_c_22
  let main_v59 : IVec S_ 1 := andi main_v54 main_v58
  let main_v60 : FVec F S26 .f32 := Host.absf main_arg11
  let main_cst_23 : FVec F S_ .f32 := constant S_ .f32 0x7F800000#32
  let main_v61 : FVec F S26 .f32 := broadcastInDim S26 ![] bcast_S_S26 main_cst_23
  let main_v62 : IVec S26 1 := cmpf .olt main_v60 main_v61
  let main_c_24 : IVec S_ 1 := constantI S_ 1 1#1
  let main_v63 : IVec S_ 1 := (fun x v => Host.reduce IntOp.andi x v reducesTo_S26_S_d0 h_S_) main_v62 main_c_24
  let main_v64 : IVec S_ 1 := andi main_v59 main_v63
  main_v64

def fn_part2 {F : FTy → Type} [FloatOps F] (main_arg7 : FVec F S1664 .f32) (main_arg8 : FVec F S1664 .f32) (main_arg9 : FVec F S1664 .f32) (main_arg10 : FVec F S416x26 .f32) (main_arg11 : FVec F S26 .f32) (main_v33 : IVec S_ 1) : IVec S_ 1 :=
  let main_v34 : FVec F S1664 .f32 := Host.absf main_arg7
  let main_cst_12 : FVec F S_ .f32 := constant S_ .f32 0x7F800000#32
  let main_v35 : FVec F S1664 .f32 := broadcastInDim S1664 ![] bcast_S_S1664 main_cst_12
  let main_v36 : IVec S1664 1 := cmpf .olt main_v34 main_v35
  let main_c_13 : IVec S_ 1 := constantI S_ 1 1#1
  let main_v37 : IVec S_ 1 := (fun x v => Host.reduce IntOp.andi x v reducesTo_S1664_S_d0 h_S_) main_v36 main_c_13
  let main_v38 : IVec S_ 1 := andi main_v33 main_v37
  let main_v39 : FVec F S1664 .f32 := Host.absf main_arg8
  let main_cst_14 : FVec F S_ .f32 := constant S_ .f32 0x7F800000#32
  let main_v40 : FVec F S1664 .f32 := broadcastInDim S1664 ![] bcast_S_S1664 main_cst_14
  let main_v41 : IVec S1664 1 := cmpf .olt main_v39 main_v40
  let main_c_15 : IVec S_ 1 := constantI S_ 1 1#1
  let main_v42 : IVec S_ 1 := (fun x v => Host.reduce IntOp.andi x v reducesTo_S1664_S_d0 h_S_) main_v41 main_c_15
  let main_v43 : IVec S_ 1 := andi main_v38 main_v42
  let main_v44 : FVec F S1664 .f32 := Host.absf main_arg9
  let main_cst_16 : FVec F S_ .f32 := constant S_ .f32 0x7F800000#32
  let main_v45 : FVec F S1664 .f32 := broadcastInDim S1664 ![] bcast_S_S1664 main_cst_16
  let main_v46 : IVec S1664 1 := cmpf .olt main_v44 main_v45
  let main_c_17 : IVec S_ 1 := constantI S_ 1 1#1
  let main_v47 : IVec S_ 1 := (fun x v => Host.reduce IntOp.andi x v reducesTo_S1664_S_d0 h_S_) main_v46 main_c_17
  let main_v48 : IVec S_ 1 := andi main_v43 main_v47
  let main_cst_18 : FVec F S_ .f32 := constant S_ .f32 0x3727C5AC#32
  let main_v49 : FVec F S1664 .f32 := broadcastInDim S1664 ![] bcast_S_S1664 main_cst_18
  let main_v50 : FVec F S1664 .f32 := addf main_arg9 main_v49
  fn_part3 (F := F) main_arg10 main_arg11 main_v48 main_v50

def fn_part1 {F : FTy → Type} [FloatOps F] (main_arg4 : FVec F S26 .f32) (main_arg5 : FVec F S26 .f32) (main_arg6 : FVec F S1664 .f32) (main_arg7 : FVec F S1664 .f32) (main_arg8 : FVec F S1664 .f32) (main_arg9 : FVec F S1664 .f32) (main_arg10 : FVec F S416x26 .f32) (main_arg11 : FVec F S26 .f32) (main_v13 : IVec S_ 1) (main_v16 : IVec S2x1x26x16 1) : IVec S_ 1 :=
  let main_c_5 : IVec S_ 1 := constantI S_ 1 1#1
  let main_v17 : IVec S_ 1 := (fun x v => Host.reduce IntOp.andi x v reducesTo_S2x1x26x16_S_d0_1_2_3 h_S_) main_v16 main_c_5
  let main_v18 : IVec S_ 1 := andi main_v13 main_v17
  let main_v19 : FVec F S26 .f32 := Host.absf main_arg4
  let main_cst_6 : FVec F S_ .f32 := constant S_ .f32 0x7F800000#32
  let main_v20 : FVec F S26 .f32 := broadcastInDim S26 ![] bcast_S_S26 main_cst_6
  let main_v21 : IVec S26 1 := cmpf .olt main_v19 main_v20
  let main_c_7 : IVec S_ 1 := constantI S_ 1 1#1
  let main_v22 : IVec S_ 1 := (fun x v => Host.reduce IntOp.andi x v reducesTo_S26_S_d0 h_S_) main_v21 main_c_7
  let main_v23 : IVec S_ 1 := andi main_v18 main_v22
  let main_v24 : FVec F S26 .f32 := Host.absf main_arg5
  let main_cst_8 : FVec F S_ .f32 := constant S_ .f32 0x7F800000#32
  let main_v25 : FVec F S26 .f32 := broadcastInDim S26 ![] bcast_S_S26 main_cst_8
  let main_v26 : IVec S26 1 := cmpf .olt main_v24 main_v25
  let main_c_9 : IVec S_ 1 := constantI S_ 1 1#1
  let main_v27 : IVec S_ 1 := (fun x v => Host.reduce IntOp.andi x v reducesTo_S26_S_d0 h_S_) main_v26 main_c_9
  let main_v28 : IVec S_ 1 := andi main_v23 main_v27
  let main_v29 : FVec F S1664 .f32 := Host.absf main_arg6
  let main_cst_10 : FVec F S_ .f32 := constant S_ .f32 0x7F800000#32
  let main_v30 : FVec F S1664 .f32 := broadcastInDim S1664 ![] bcast_S_S1664 main_cst_10
  let main_v31 : IVec S1664 1 := cmpf .olt main_v29 main_v30
  let main_c_11 : IVec S_ 1 := constantI S_ 1 1#1
  let main_v32 : IVec S_ 1 := (fun x v => Host.reduce IntOp.andi x v reducesTo_S1664_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16384x26x16 .f32) (main_arg1 : FVec F S2x3x26x26 .f32) (main_arg2 : FVec F S1x2x1x32x16 .f32) (main_arg3 : FVec F S2x1x26x16 .f32) (main_arg4 : FVec F S26 .f32) (main_arg5 : FVec F S26 .f32) (main_arg6 : FVec F S1664 .f32) (main_arg7 : FVec F S1664 .f32) (main_arg8 : FVec F S1664 .f32) (main_arg9 : FVec F S1664 .f32) (main_arg10 : FVec F S416x26 .f32) (main_arg11 : FVec F S26 .f32) : IVec S_ 1 :=
  let main_v0 : FVec F S16384x26x16 .f32 := Host.absf main_arg0
  let main_cst : FVec F S_ .f32 := constant S_ .f32 0x7F800000#32
  let main_v1 : FVec F S16384x26x16 .f32 := broadcastInDim S16384x26x16 ![] bcast_S_S16384x26x16 main_cst
  let main_v2 : IVec S16384x26x16 1 := cmpf .olt main_v0 main_v1
  let main_c : IVec S_ 1 := constantI S_ 1 1#1
  let main_v3 : IVec S_ 1 := (fun x v => Host.reduce IntOp.andi x v reducesTo_S16384x26x16_S_d0_1_2 h_S_) main_v2 main_c
  let main_v4 : FVec F S2x3x26x26 .f32 := Host.absf main_arg1
  let main_cst_0 : FVec F S_ .f32 := constant S_ .f32 0x7F800000#32
  let main_v5 : FVec F S2x3x26x26 .f32 := broadcastInDim S2x3x26x26 ![] bcast_S_S2x3x26x26 main_cst_0
  let main_v6 : IVec S2x3x26x26 1 := cmpf .olt main_v4 main_v5
  let main_c_1 : IVec S_ 1 := constantI S_ 1 1#1
  let main_v7 : IVec S_ 1 := (fun x v => Host.reduce IntOp.andi x v reducesTo_S2x3x26x26_S_d0_1_2_3 h_S_) main_v6 main_c_1
  let main_v8 : IVec S_ 1 := andi main_v3 main_v7
  let main_v9 : FVec F S1x2x1x32x16 .f32 := Host.absf main_arg2
  let main_cst_2 : FVec F S_ .f32 := constant S_ .f32 0x7F800000#32
  let main_v10 : FVec F S1x2x1x32x16 .f32 := broadcastInDim S1x2x1x32x16 ![] bcast_S_S1x2x1x32x16 main_cst_2
  let main_v11 : IVec S1x2x1x32x16 1 := cmpf .olt main_v9 main_v10
  let main_c_3 : IVec S_ 1 := constantI S_ 1 1#1
  let main_v12 : IVec S_ 1 := (fun x v => Host.reduce IntOp.andi x v reducesTo_S1x2x1x32x16_S_d0_1_2_3_4 h_S_) main_v11 main_c_3
  let main_v13 : IVec S_ 1 := andi main_v8 main_v12
  let main_v14 : FVec F S2x1x26x16 .f32 := Host.absf main_arg3
  let main_cst_4 : FVec F S_ .f32 := constant S_ .f32 0x7F800000#32
  let main_v15 : FVec F S2x1x26x16 .f32 := broadcastInDim S2x1x26x16 ![] bcast_S_S2x1x26x16 main_cst_4
  let main_v16 : IVec S2x1x26x16 1 := cmpf .olt main_v14 main_v15
  fn_part1 (F := F) main_arg4 main_arg5 main_arg6 main_arg7 main_arg8 main_arg9 main_arg10 main_arg11 main_v13 main_v16
-- ==== Kernel.lean ====
abbrev S16384x26x16 : Shape := ⟨3, ![16384, 26, 16]⟩
abbrev S2x3x26x26 : Shape := ⟨4, ![2, 3, 26, 26]⟩
abbrev S1x2x1x32x16 : Shape := ⟨5, ![1, 2, 1, 32, 16]⟩
abbrev S2x1x26x16 : Shape := ⟨4, ![2, 1, 26, 16]⟩
abbrev S26 : Shape := ⟨1, ![26]⟩
abbrev S1664 : Shape := ⟨1, ![1664]⟩
abbrev S416x26 : Shape := ⟨2, ![416, 26]⟩
abbrev S26x26 : Shape := ⟨2, ![26, 26]⟩
abbrev S26x416 : Shape := ⟨2, ![26, 416]⟩
abbrev S416x16 : Shape := ⟨2, ![416, 16]⟩
abbrev S16x416 : Shape := ⟨2, ![16, 416]⟩
abbrev S1x26 : Shape := ⟨2, ![1, 26]⟩
abbrev S128x832 : Shape := ⟨2, ![128, 832]⟩
abbrev S832x64 : Shape := ⟨2, ![832, 64]⟩
abbrev S128x64 : Shape := ⟨2, ![128, 64]⟩
abbrev S26x16x26x16 : Shape := ⟨4, ![26, 16, 26, 16]⟩
abbrev S416x416 : Shape := ⟨2, ![416, 416]⟩
abbrev S16384x416 : Shape := ⟨2, ![16384, 416]⟩
abbrev S26x1 : Shape := ⟨2, ![26, 1]⟩
abbrev S2x26x32 : Shape := ⟨3, ![2, 26, 32]⟩
abbrev S16384x32 : Shape := ⟨2, ![16384, 32]⟩
abbrev S4096x416 : Shape := ⟨2, ![4096, 416]⟩
abbrev S4096x32 : Shape := ⟨2, ![4096, 32]⟩
abbrev S416x960 : Shape := ⟨2, ![416, 960]⟩
abbrev S1x960 : Shape := ⟨2, ![1, 960]⟩
abbrev S1x3x26x26 : Shape := ⟨4, ![1, 3, 26, 26]⟩
abbrev S3x26x26 : Shape := ⟨3, ![3, 26, 26]⟩
abbrev S1x26x26 : Shape := ⟨3, ![1, 26, 26]⟩
abbrev S1x26x32 : Shape := ⟨3, ![1, 26, 32]⟩
abbrev S26x32 : Shape := ⟨2, ![26, 32]⟩
abbrev S26x16 : Shape := ⟨2, ![26, 16]⟩
abbrev S16x26 : Shape := ⟨2, ![16, 26]⟩
abbrev S1x1x1x16x16 : Shape := ⟨5, ![1, 1, 1, 16, 16]⟩
abbrev S16x16 : Shape := ⟨2, ![16, 16]⟩
abbrev S1x1x26x16 : Shape := ⟨4, ![1, 1, 26, 16]⟩
abbrev S1x416 : Shape := ⟨2, ![1, 416]⟩
abbrev S416 : Shape := ⟨1, ![416]⟩
abbrev S416x38 : Shape := ⟨2, ![416, 38]⟩
abbrev S4096x960 : Shape := ⟨2, ![4096, 960]⟩
abbrev S4096x128 : Shape := ⟨2, ![4096, 128]⟩
abbrev S4096x832 : Shape := ⟨2, ![4096, 832]⟩
abbrev S4096x64 : Shape := ⟨2, ![4096, 64]⟩
abbrev S16384x2x16 : Shape := ⟨3, ![16384, 2, 16]⟩

abbrev nBuf : Space → Nat
  | .hbm => 34
  | .vmem => 27
  | .smem => 0
  | _ => 0

abbrev bufTy : (tb : Table) → Fin (tcTables nBuf tb) → BufTy
  | .hbm, ⟨0, _⟩ => ⟨S16384x26x16, .f32⟩
  | .hbm, ⟨1, _⟩ => ⟨S2x3x26x26, .f32⟩
  | .hbm, ⟨2, _⟩ => ⟨S1x2x1x32x16, .f32⟩
  | .hbm, ⟨3, _⟩ => ⟨S2x1x26x16, .f32⟩
  | .hbm, ⟨4, _⟩ => ⟨S26, .f32⟩
  | .hbm, ⟨5, _⟩ => ⟨S26, .f32⟩
  | .hbm, ⟨6, _⟩ => ⟨S1664, .f32⟩
  | .hbm, ⟨7, _⟩ => ⟨S1664, .f32⟩
  | .hbm, ⟨8, _⟩ => ⟨S1664, .f32⟩
  | .hbm, ⟨9, _⟩ => ⟨S1664, .f32⟩
  | .hbm, ⟨10, _⟩ => ⟨S416x26, .f32⟩
  | .hbm, ⟨11, _⟩ => ⟨S26, .f32⟩
  | .hbm, ⟨12, _⟩ => ⟨S26x26, .f32⟩
  | .hbm, ⟨13, _⟩ => ⟨S416x26, .f32⟩
  | .hbm, ⟨14, _⟩ => ⟨S26x416, .f32⟩
  | .hbm, ⟨15, _⟩ => ⟨S416x16, .f32⟩
  | .hbm, ⟨16, _⟩ => ⟨S16x416, .f32⟩
  | .hbm, ⟨17, _⟩ => ⟨S1x26, .f32⟩
  | .hbm, ⟨18, _⟩ => ⟨S128x832, .f32⟩
  | .hbm, ⟨19, _⟩ => ⟨S832x64, .f32⟩
  | .hbm, ⟨20, _⟩ => ⟨S128x64, .f32⟩
  | .hbm, ⟨21, _⟩ => ⟨S26x16x26x16, .f32⟩
  | .hbm, ⟨22, _⟩ => ⟨S416x416, .f32⟩
  | .hbm, ⟨23, _⟩ => ⟨S16384x416, .f32⟩
  | .hbm, ⟨24, _⟩ => ⟨S16384x416, .bf16⟩
  | .hbm, ⟨25, _⟩ => ⟨S26x1, .f32⟩
  | .hbm, ⟨26, _⟩ => ⟨S26x1, .f32⟩
  | .hbm, ⟨27, _⟩ => ⟨S2x26x32, .f32⟩
  | .hbm, ⟨28, _⟩ => ⟨S2x26x32, .f32⟩
  | .hbm, ⟨29, _⟩ => ⟨S2x26x32, .f32⟩
  | .hbm, ⟨30, _⟩ => ⟨S2x26x32, .f32⟩
  | .hbm, ⟨31, _⟩ => ⟨S1x26, .f32⟩
  | .hbm, ⟨32, _⟩ => ⟨S16384x32, .f32⟩
  | .hbm, ⟨33, _⟩ => ⟨S16384x2x16, .f32⟩
  | .local _ .vmem, ⟨0, _⟩ => ⟨S2x3x26x26, .f32⟩
  | .local _ .vmem, ⟨1, _⟩ => ⟨S26x1, .f32⟩
  | .local _ .vmem, ⟨2, _⟩ => ⟨S26x1, .f32⟩
  | .local _ .vmem, ⟨3, _⟩ => ⟨S2x26x32, .f32⟩
  | .local _ .vmem, ⟨4, _⟩ => ⟨S2x26x32, .f32⟩
  | .local _ .vmem, ⟨5, _⟩ => ⟨S2x26x32, .f32⟩
  | .local _ .vmem, ⟨6, _⟩ => ⟨S2x26x32, .f32⟩
  | .local _ .vmem, ⟨7, _⟩ => ⟨S1x2x1x32x16, .f32⟩
  | .local _ .vmem, ⟨8, _⟩ => ⟨S2x1x26x16, .f32⟩
  | .local _ .vmem, ⟨9, _⟩ => ⟨S416x26, .f32⟩
  | .local _ .vmem, ⟨10, _⟩ => ⟨S1x26, .f32⟩
  | .local _ .vmem, ⟨11, _⟩ => ⟨S416x26, .f32⟩
  | .local _ .vmem, ⟨12, _⟩ => ⟨S26x416, .f32⟩
  | .local _ .vmem, ⟨13, _⟩ => ⟨S416x16, .f32⟩
  | .local _ .vmem, ⟨14, _⟩ => ⟨S16x416, .f32⟩
  | .local _ .vmem, ⟨15, _⟩ => ⟨S416x416, .f32⟩
  | .local _ .vmem, ⟨16, _⟩ => ⟨S26x26, .f32⟩
  | .local _ .vmem, ⟨17, _⟩ => ⟨S1x26, .f32⟩
  | .local _ .vmem, ⟨18, _⟩ => ⟨S4096x416, .bf16⟩
  | .local _ .vmem, ⟨19, _⟩ => ⟨S4096x416, .bf16⟩
  | .local _ .vmem, ⟨20, _⟩ => ⟨S128x832, .f32⟩
  | .local _ .vmem, ⟨21, _⟩ => ⟨S832x64, .f32⟩
  | .local _ .vmem, ⟨22, _⟩ => ⟨S128x64, .f32⟩
  | .local _ .vmem, ⟨23, _⟩ => ⟨S4096x32, .f32⟩
  | .local _ .vmem, ⟨24, _⟩ => ⟨S4096x32, .f32⟩
  | .local _ .vmem, ⟨25, _⟩ => ⟨S416x960, .bf16⟩
  | .local _ .vmem, ⟨26, _⟩ => ⟨S1x960, .f32⟩
  | _, _ => ⟨S16384x26x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_cst_0 : Ref sig .tc := ⟨.hbm, 13, rfl⟩
abbrev main_cst_1 : Ref sig .tc := ⟨.hbm, 14, rfl⟩
abbrev main_cst_2 : Ref sig .tc := ⟨.hbm, 15, rfl⟩
abbrev main_cst_3 : Ref sig .tc := ⟨.hbm, 16, rfl⟩
abbrev main_cst_4 : Ref sig .tc := ⟨.hbm, 17, rfl⟩
abbrev main_cst_5 : Ref sig .tc := ⟨.hbm, 18, rfl⟩
abbrev main_cst_6 : Ref sig .tc := ⟨.hbm, 19, rfl⟩
abbrev main_cst_7 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg18_1 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg22_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem18_1 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem22_1 : DmaSem sig := 24

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x3x26x26 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S26x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S26x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x26x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x26x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x26x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x26x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2x1x32x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1x26x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S416x26 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x26 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S416x26 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S26x416 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S416x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x416 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S416x416 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S26x26 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x26 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S4096x416 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S128x832 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S832x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S4096x32 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== ReferenceIdeal.lean ====
abbrev S16384x26x16 : Shape := ⟨3, ![16384, 26, 16]⟩
abbrev S2x3x26x26 : Shape := ⟨4, ![2, 3, 26, 26]⟩
abbrev S1x2x1x32x16 : Shape := ⟨5, ![1, 2, 1, 32, 16]⟩
abbrev S2x1x26x16 : Shape := ⟨4, ![2, 1, 26, 16]⟩
abbrev S26 : Shape := ⟨1, ![26]⟩
abbrev S1664 : Shape := ⟨1, ![1664]⟩
abbrev S416x26 : Shape := ⟨2, ![416, 26]⟩
abbrev S16384x1x26x16 : Shape := ⟨4, ![16384, 1, 26, 16]⟩
abbrev S16384x2x26x16 : Shape := ⟨4, ![16384, 2, 26, 16]⟩
abbrev S2x1x26x26 : Shape := ⟨4, ![2, 1, 26, 26]⟩
abbrev S2x26x26 : Shape := ⟨3, ![2, 26, 26]⟩
abbrev S_ : Shape := ⟨0, ![]⟩
abbrev S2x26 : Shape := ⟨2, ![2, 26]⟩
abbrev S2x26x1 : Shape := ⟨3, ![2, 26, 1]⟩
abbrev S1x1x26 : Shape := ⟨3, ![1, 1, 26]⟩
abbrev S26x26 : Shape := ⟨2, ![26, 26]⟩
abbrev S1x26x26 : Shape := ⟨3, ![1, 26, 26]⟩
abbrev S2x1x26 : Shape := ⟨3, ![2, 1, 26]⟩
abbrev S16384x2x16x26 : Shape := ⟨4, ![16384, 2, 16, 26]⟩
abbrev S2x16384x16x26 : Shape := ⟨4, ![2, 16384, 16, 26]⟩
abbrev S16384x2x26x32 : Shape := ⟨4, ![16384, 2, 26, 32]⟩
abbrev S16384x1664 : Shape := ⟨2, ![16384, 1664]⟩
abbrev S1x1664 : Shape := ⟨2, ![1, 1664]⟩
abbrev S1x2x32x16 : Shape := ⟨4, ![1, 2, 32, 16]⟩
abbrev S2x32x16 : Shape := ⟨3, ![2, 32, 16]⟩
abbrev S2x16384x26x16 : Shape := ⟨4, ![2, 16384, 26, 16]⟩
abbrev S2x26x16 : Shape := ⟨3, ![2, 26, 16]⟩
abbrev S1x2x26x16 : Shape := ⟨4, ![1, 2, 26, 16]⟩
abbrev S16384x2x416 : Shape := ⟨3, ![16384, 2, 416]⟩
abbrev S16384x2x26 : Shape := ⟨3, ![16384, 2, 26]⟩
abbrev S16384x2 : Shape := ⟨2, ![16384, 2]⟩
abbrev S16384x2x1 : Shape := ⟨3, ![16384, 2, 1]⟩
abbrev S16384x2x26x1 : Shape := ⟨4, ![16384, 2, 26, 1]⟩
abbrev S16384x2x16 : Shape := ⟨3, ![16384, 2, 16]⟩

abbrev nBuf : Space → Nat
  | .hbm => 162
  | .vmem => 0
  | .smem => 0
  | _ => 0

abbrev hbmTy0_0 (i : Nat) : BufTy := match i % 128 with
  | 0 => ⟨S16384x26x16, .f32⟩
  | 1 => ⟨S2x3x26x26, .f32⟩
  | 2 => ⟨S1x2x1x32x16, .f32⟩
  | 3 => ⟨S2x1x26x16, .f32⟩
  | 4 => ⟨S26, .f32⟩
  | 5 => ⟨S26, .f32⟩
  | 6 => ⟨S1664, .f32⟩
  | 7 => ⟨S1664, .f32⟩
  | 8 => ⟨S1664, .f32⟩
  | 9 => ⟨S1664, .f32⟩
  | 10 => ⟨S416x26, .f32⟩
  | 11 => ⟨S26, .f32⟩
  | 12 => ⟨S16384x1x26x16, .f32⟩
  | 13 => ⟨S16384x2x26x16, .f32⟩
  | 14 => ⟨S2x1x26x26, .f32⟩
  | 15 => ⟨S2x26x26, .f32⟩
  | 16 => ⟨S2x1x26x26, .f32⟩
  | 17 => ⟨S2x26x26, .f32⟩
  | 18 => ⟨S2x26x26, .f32⟩
  | 19 => ⟨S2x1x26x26, .f32⟩
  | 20 => ⟨S2x26x26, .f32⟩
  | 21 => ⟨S2x26x26, .f32⟩
  | 22 => ⟨S_, .f32⟩
  | 23 => ⟨S2x26x26, .f32⟩
  | 24 => ⟨S2x26x26, .f32⟩
  | 25 => ⟨S_, .f32⟩
  | 26 => ⟨S2x26x26, .f32⟩
  | 27 => ⟨S2x26x26, .i1⟩
  | 28 => ⟨S2x26x26, .f32⟩
  | 29 => ⟨S2x26x26, .f32⟩
  | 30 => ⟨S_, .f32⟩
  | 31 => ⟨S2x26, .f32⟩
  | 32 => ⟨S2x26x1, .f32⟩
  | 33 => ⟨S_, .f32⟩
  | 34 => ⟨S2x26x1, .f32⟩
  | 35 => ⟨S2x26x1, .f32⟩
  | 36 => ⟨S_, .i32⟩
  | 37 => ⟨S_, .f32⟩
  | 38 => ⟨S2x26, .f32⟩
  | 39 => ⟨S2x26x1, .f32⟩
  | 40 => ⟨S_, .f32⟩
  | 41 => ⟨S2x26x1, .f32⟩
  | 42 => ⟨S2x26x1, .f32⟩
  | 43 => ⟨S2x26x26, .f32⟩
  | 44 => ⟨S2x26x26, .f32⟩
  | 45 => ⟨S2x26x26, .f32⟩
  | 46 => ⟨S_, .f32⟩
  | 47 => ⟨S_, .f32⟩
  | 48 => ⟨S_, .f32⟩
  | 49 => ⟨S_, .f32⟩
  | 50 => ⟨S2x26, .f32⟩
  | 51 => ⟨S2x26x1, .f32⟩
  | 52 => ⟨S2x26x1, .f32⟩
  | 53 => ⟨S2x26x1, .f32⟩
  | 54 => ⟨S_, .f32⟩
  | 55 => ⟨S_, .i1⟩
  | 56 => ⟨S_, .f32⟩
  | 57 => ⟨S_, .f32⟩
  | 58 => ⟨S2x26x1, .f32⟩
  | 59 => ⟨S2x26x1, .f32⟩
  | 60 => ⟨S2x26x26, .f32⟩
  | 61 => ⟨S2x26x26, .f32⟩
  | 62 => ⟨S_, .f32⟩
  | 63 => ⟨S2x26x1, .f32⟩
  | 64 => ⟨S2x26x1, .f32⟩
  | 65 => ⟨S2x26x1, .f32⟩
  | 66 => ⟨S2x26x26, .f32⟩
  | 67 => ⟨S2x26x26, .f32⟩
  | 68 => ⟨S1x1x26, .f32⟩
  | 69 => ⟨S2x26x26, .f32⟩
  | 70 => ⟨S2x26x26, .f32⟩
  | 71 => ⟨S1x1x26, .f32⟩
  | 72 => ⟨S2x26x26, .f32⟩
  | 73 => ⟨S2x26x26, .f32⟩
  | 74 => ⟨S2x26x26, .f32⟩
  | 75 => ⟨S_, .f32⟩
  | 76 => ⟨S2x26x26, .f32⟩
  | 77 => ⟨S2x26x26, .f32⟩
  | 78 => ⟨S_, .f32⟩
  | 79 => ⟨S2x26x26, .f32⟩
  | 80 => ⟨S2x26x26, .f32⟩
  | 81 => ⟨S2x26x26, .f32⟩
  | 82 => ⟨S26x26, .i32⟩
  | 83 => ⟨S26x26, .i32⟩
  | 84 => ⟨S_, .i32⟩
  | 85 => ⟨S26x26, .i32⟩
  | 86 => ⟨S26x26, .i32⟩
  | 87 => ⟨S26x26, .i1⟩
  | 88 => ⟨S26x26, .f32⟩
  | 89 => ⟨S1x26x26, .f32⟩
  | 90 => ⟨S2x26x26, .f32⟩
  | 91 => ⟨S2x26x26, .f32⟩
  | 92 => ⟨S_, .f32⟩
  | 93 => ⟨S2x26, .f32⟩
  | 94 => ⟨S_, .f32⟩
  | 95 => ⟨S2x26, .f32⟩
  | 96 => ⟨S2x26, .f32⟩
  | 97 => ⟨S2x1x26, .f32⟩
  | 98 => ⟨S2x26x26, .f32⟩
  | 99 => ⟨S2x26x26, .f32⟩
  | 100 => ⟨S2x26x26, .f32⟩
  | 101 => ⟨S_, .f32⟩
  | 102 => ⟨S2x26, .f32⟩
  | 103 => ⟨S2x1x26, .f32⟩
  | 104 => ⟨S2x26x26, .f32⟩
  | 105 => ⟨S2x26x26, .f32⟩
  | 106 => ⟨S2x26x26, .f32⟩
  | 107 => ⟨S16384x2x16x26, .f32⟩
  | 108 => ⟨S2x16384x16x26, .f32⟩
  | 109 => ⟨S16384x2x16x26, .f32⟩
  | 110 => ⟨S16384x2x26x16, .f32⟩
  | 111 => ⟨S16384x2x26x32, .f32⟩
  | 112 => ⟨S16384x1664, .f32⟩
  | 113 => ⟨S1x1664, .f32⟩
  | 114 => ⟨S16384x1664, .f32⟩
  | 115 => ⟨S16384x1664, .f32⟩
  | 116 => ⟨S_, .f32⟩
  | 117 => ⟨S1664, .f32⟩
  | 118 => ⟨S1664, .f32⟩
  | 119 => ⟨S1664, .f32⟩
  | 120 => ⟨S1x1664, .f32⟩
  | 121 => ⟨S16384x1664, .f32⟩
  | 122 => ⟨S16384x1664, .f32⟩
  | 123 => ⟨S1x1664, .f32⟩
  | 124 => ⟨S16384x1664, .f32⟩
  | 125 => ⟨S16384x1664, .f32⟩
  | 126 => ⟨S1x1664, .f32⟩
  | 127 => ⟨S16384x1664, .f32⟩
  | _ => ⟨S16384x26x16, .f32⟩

abbrev hbmTy0_1 (i : Nat) : BufTy := match i % 128 with
  | 0 => ⟨S16384x1664, .f32⟩
  | 1 => ⟨S16384x2x26x32, .f32⟩
  | 2 => ⟨S1x2x32x16, .f32⟩
  | 3 => ⟨S2x32x16, .f32⟩
  | 4 => ⟨S2x16384x26x16, .f32⟩
  | 5 => ⟨S16384x2x26x16, .f32⟩
  | 6 => ⟨S2x26x16, .f32⟩
  | 7 => ⟨S1x2x26x16, .f32⟩
  | 8 => ⟨S16384x2x26x16, .f32⟩
  | 9 => ⟨S16384x2x26x16, .f32⟩
  | 10 => ⟨S16384x2x416, .f32⟩
  | 11 => ⟨S16384x2x26, .f32⟩
  | 12 => ⟨S1x1x26, .f32⟩
  | 13 => ⟨S16384x2x26, .f32⟩
  | 14 => ⟨S16384x2x26, .f32⟩
  | 15 => ⟨S_, .f32⟩
  | 16 => ⟨S16384x2, .f32⟩
  | 17 => ⟨S_, .f32⟩
  | 18 => ⟨S16384x2, .f32⟩
  | 19 => ⟨S16384x2, .f32⟩
  | 20 => ⟨S16384x2x1, .f32⟩
  | 21 => ⟨S16384x2x26, .f32⟩
  | 22 => ⟨S16384x2x26, .f32⟩
  | 23 => ⟨S16384x2x26, .f32⟩
  | 24 => ⟨S_, .f32⟩
  | 25 => ⟨S16384x2, .f32⟩
  | 26 => ⟨S16384x2x1, .f32⟩
  | 27 => ⟨S16384x2x26, .f32⟩
  | 28 => ⟨S16384x2x26, .f32⟩
  | 29 => ⟨S16384x2x26x1, .f32⟩
  | 30 => ⟨S16384x2x26x16, .f32⟩
  | 31 => ⟨S16384x2x26x16, .f32⟩
  | 32 => ⟨S_, .f32⟩
  | 33 => ⟨S16384x2x16, .f32⟩
  | _ => ⟨S16384x26x16, .f32⟩

abbrev hbmTy (i : Nat) : BufTy := match i / 128 with
  | 0 => hbmTy0_0 i
  | 1 => hbmTy0_1 i
  | _ => ⟨S16384x26x16, .f32⟩

abbrev bufTy : (tb : Table) → Fin (tcTables nBuf tb) → BufTy
  | .hbm, ⟨i, _⟩ => hbmTy i
  | _, _ => ⟨S16384x26x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_cst : Ref sig .tc := ⟨.hbm, 22, rfl⟩
abbrev main_call0_v0 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_cst_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_cst_1 : Ref sig .tc := ⟨.hbm, 47, rfl⟩
abbrev main_call1_v8 : Ref sig .tc := ⟨.hbm, 48, rfl⟩
abbrev main_call1_cst_2 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_cst_3 : Ref sig .tc := ⟨.hbm, 54, rfl⟩
abbrev main_call1_v13 : Ref sig .tc := ⟨.hbm, 55, rfl⟩
abbrev main_call1_cst_4 : Ref sig .tc := ⟨.hbm, 56, rfl⟩
abbrev main_call1_call0_v0 : Ref sig .tc := ⟨.hbm, 57, rfl⟩
abbrev main_call1_call0_v1 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_2 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_cst_3 : Ref sig .tc := ⟨.hbm, 75, rfl⟩
abbrev main_v34 : Ref sig .tc := ⟨.hbm, 76, rfl⟩
abbrev main_v35 : Ref sig .tc := ⟨.hbm, 77, rfl⟩
abbrev main_cst_4 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_c_5 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_cst_6 : Ref sig .tc := ⟨.hbm, 92, rfl⟩
abbrev main_v48 : Ref sig .tc := ⟨.hbm, 93, rfl⟩
abbrev main_cst_7 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_cst_8 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_cst_9 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_cst_10 : Ref sig .tc := ⟨.hbm, 143, rfl⟩
abbrev main_v95 : Ref sig .tc := ⟨.hbm, 144, rfl⟩
abbrev main_cst_11 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_cst_12 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_cst_13 : Ref sig .tc := ⟨.hbm, 160, rfl⟩
abbrev main_v109 : Ref sig .tc := ⟨.hbm, 161, rfl⟩

abbrev nD : Nat := 1
abbrev τ : Topo := Topo.v7x

variable {F : FTy → Type} [FloatOps F]
-- ==== Proof.RunA.lean ====
/- The body's run at the grid's first point of a batch of four: the pieces its stores leave. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S2x3x26x26 .f32) (harg1 : arg1.IsWhole) (arg2 : Memref sig .tc .vmem S26x1 .f32) (harg2 : arg2.IsWhole) (arg3 : Memref sig .tc .vmem S26x1 .f32) (harg3 : arg3.IsWhole) (arg4 : Memref sig .tc .vmem S2x26x32 .f32) (harg4 : arg4.IsWhole) (arg5 : Memref sig .tc .vmem S2x26x32 .f32) (harg5 : arg5.IsWhole) (arg6 : Memref sig .tc .vmem S2x26x32 .f32) (harg6 : arg6.IsWhole) (arg7 : Memref sig .tc .vmem S2x26x32 .f32) (harg7 : arg7.IsWhole) (arg8 : Memref sig .tc .vmem S1x2x1x32x16 .f32) (harg8 : arg8.IsWhole) (arg9 : Memref sig .tc .vmem S2x1x26x16 .f32) (harg9 : arg9.IsWhole) (arg10 : Memref sig .tc .vmem S416x26 .f32) (harg10 : arg10.IsWhole) (arg11 : Memref sig .tc .vmem S1x26 .f32) (harg11 : arg11.IsWhole) (arg12 : Memref sig .tc .vmem S416x26 .f32) (harg12 : arg12.IsWhole) (arg13 : Memref sig .tc .vmem S26x416 .f32) (harg13 : arg13.IsWhole) (arg14 : Memref sig .tc .vmem S416x16 .f32) (harg14 : arg14.IsWhole) (arg15 : Memref sig .tc .vmem S16x416 .f32) (harg15 : arg15.IsWhole) (arg16 : Memref sig .tc .vmem S416x416 .f32) (harg16 : arg16.IsWhole) (arg17 : Memref sig .tc .vmem S26x26 .f32) (harg17 : arg17.IsWhole) (arg18 : Memref sig .tc .vmem S1x26 .f32) (harg18 : arg18.IsWhole) (arg19 : Memref sig .tc .vmem S4096x416 .bf16) (harg19 : arg19.IsWhole) (arg20 : Memref sig .tc .vmem S128x832 .f32) (harg20 : arg20.IsWhole) (arg21 : Memref sig .tc .vmem S832x64 .f32) (harg21 : arg21.IsWhole) (arg22 : Memref sig .tc .vmem S128x64 .f32) (harg22 : arg22.IsWhole) (arg23 : Memref sig .tc .vmem S4096x32 .f32) (harg23 : arg23.IsWhole) (arg24 : Memref sig .tc .vmem S416x960 .bf16) (harg24 : arg24.IsWhole) (arg25 : Memref sig .tc .vmem S1x960 .f32) (harg25 : arg25.IsWhole) (hc0 : cond0_0 i)
    (x0 : Vec F S2x3x26x26 .f32) (x1 : Vec F S26x1 .f32) (x2 : Vec F S26x1 .f32) (x3 : Vec F S2x26x32 .f32) (x4 : Vec F S2x26x32 .f32) (x5 : Vec F S2x26x32 .f32) (x6 : Vec F S2x26x32 .f32) (x7 : Vec F S1x2x1x32x16 .f32) (x8 : Vec F S2x1x26x16 .f32) (x9 : Vec F S416x26 .f32) (x10 : Vec F S1x26 .f32) (x11 : Vec F S416x26 .f32) (x12 : Vec F S26x416 .f32) (x13 : Vec F S416x16 .f32) (x14 : Vec F S16x416 .f32) (x15 : Vec F S416x416 .f32) (x16 : Vec F S26x26 .f32) (x17 : Vec F S1x26 .f32) (x18 : Vec F S4096x416 .bf16) (x19 : Vec F S128x832 .f32) (x20 : Vec F S832x64 .f32) (x21 : Vec F S128x64 .f32) :
    Σ' (L22 : List (View.Piece (Elt F) S4096x32 .f32)), Σ' (LS0 : List (View.Piece (Elt F) S416x960 .bf16)), { LS1 : List (View.Piece (Elt F) S1x960 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f LS0) ∗ (∃ f, arg25.view.loc (c : Thread nD τ) ↦[arg25.view.set]{fullShare} arg25.view.writes (Elt F) f LS1)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, fun E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]; · iexists _; iexact H22
    isplitl [HS0]; · iexists _; iexact HS0
    iexists _; iexact HS1

end Cert.KernelIdeal.Gen

end
-- ==== Proof.RunB.lean ====
/- The body's run at the other grid points: the pieces its stores leave. -/
module

public import proofs.«01_k».proof.Proof.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
/-- What the body's stores leave in each output's staging memref, as pieces (last first) IN CASE B (`scf.if` 0 not taken: points 1, 2, 3), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S2x3x26x26 .f32) (harg1 : arg1.IsWhole) (arg2 : Memref sig .tc .vmem S26x1 .f32) (harg2 : arg2.IsWhole) (arg3 : Memref sig .tc .vmem S26x1 .f32) (harg3 : arg3.IsWhole) (arg4 : Memref sig .tc .vmem S2x26x32 .f32) (harg4 : arg4.IsWhole) (arg5 : Memref sig .tc .vmem S2x26x32 .f32) (harg5 : arg5.IsWhole) (arg6 : Memref sig .tc .vmem S2x26x32 .f32) (harg6 : arg6.IsWhole) (arg7 : Memref sig .tc .vmem S2x26x32 .f32) (harg7 : arg7.IsWhole) (arg8 : Memref sig .tc .vmem S1x2x1x32x16 .f32) (harg8 : arg8.IsWhole) (arg9 : Memref sig .tc .vmem S2x1x26x16 .f32) (harg9 : arg9.IsWhole) (arg10 : Memref sig .tc .vmem S416x26 .f32) (harg10 : arg10.IsWhole) (arg11 : Memref sig .tc .vmem S1x26 .f32) (harg11 : arg11.IsWhole) (arg12 : Memref sig .tc .vmem S416x26 .f32) (harg12 : arg12.IsWhole) (arg13 : Memref sig .tc .vmem S26x416 .f32) (harg13 : arg13.IsWhole) (arg14 : Memref sig .tc .vmem S416x16 .f32) (harg14 : arg14.IsWhole) (arg15 : Memref sig .tc .vmem S16x416 .f32) (harg15 : arg15.IsWhole) (arg16 : Memref sig .tc .vmem S416x416 .f32) (harg16 : arg16.IsWhole) (arg17 : Memref sig .tc .vmem S26x26 .f32) (harg17 : arg17.IsWhole) (arg18 : Memref sig .tc .vmem S1x26 .f32) (harg18 : arg18.IsWhole) (arg19 : Memref sig .tc .vmem S4096x416 .bf16) (harg19 : arg19.IsWhole) (arg20 : Memref sig .tc .vmem S128x832 .f32) (harg20 : arg20.IsWhole) (arg21 : Memref sig .tc .vmem S832x64 .f32) (harg21 : arg21.IsWhole) (arg22 : Memref sig .tc .vmem S128x64 .f32) (harg22 : arg22.IsWhole) (arg23 : Memref sig .tc .vmem S4096x32 .f32) (harg23 : arg23.IsWhole) (arg24 : Memref sig .tc .vmem S416x960 .bf16) (harg24 : arg24.IsWhole) (arg25 : Memref sig .tc .vmem S1x960 .f32) (harg25 : arg25.IsWhole) (hc0 : ¬cond0_0 i)
    (x0 : Vec F S2x3x26x26 .f32) (x1 : Vec F S26x1 .f32) (x2 : Vec F S26x1 .f32) (x3 : Vec F S2x26x32 .f32) (x4 : Vec F S2x26x32 .f32) (x5 : Vec F S2x26x32 .f32) (x6 : Vec F S2x26x32 .f32) (x7 : Vec F S1x2x1x32x16 .f32) (x8 : Vec F S2x1x26x16 .f32) (x9 : Vec F S416x26 .f32) (x10 : Vec F S1x26 .f32) (x11 : Vec F S416x26 .f32) (x12 : Vec F S26x416 .f32) (x13 : Vec F S416x16 .f32) (x14 : Vec F S16x416 .f32) (x15 : Vec F S416x416 .f32) (x16 : Vec F S26x26 .f32) (x17 : Vec F S1x26 .f32) (x18 : Vec F S4096x416 .bf16) (x19 : Vec F S128x832 .f32) (x20 : Vec F S832x64 .f32) (x21 : Vec F S128x64 .f32) (xs0 : Vec F S416x960 .bf16) (xs1 : Vec F S1x960 .f32) :
    Σ' (L22 : List (View.Piece (Elt F) S4096x32 .f32)), Σ' (LS0 : List (View.Piece (Elt F) S416x960 .bf16)), { LS1 : List (View.Piece (Elt F) S1x960 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d) ∗ owns (c : Thread nD τ) arg24 fullShare xs0 ∗ owns (c : Thread nD τ) arg25 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ f, arg23.view.loc (c : Thread nD τ) ↦[arg23.view.set]{fullShare} arg23.view.writes (Elt F) f L22) ∗ owns (c : Thread nD τ) arg24 fullShare xs0 ∗ owns (c : Thread nD τ) arg25 fullShare xs1) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, [], [], fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg24.eq_unread hfs0; obtain rfl := harg25.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]; · iexists _; iexact H22
    isplitl [HS0]
    · iexists _; isplitr; · ipureintro; exact harg24.read_unread _
      iexact HS0
    iexists _; isplitr; · ipureintro; exact harg25.read_unread _
    iexact HS1

end Cert.KernelIdeal.Gen

end
-- ==== Proof.Frame.lean ====
/- What the outputs and the carried scratch arrays hold point by point, the run of the kernel, and its frame. -/
module

public import proofs.«01_k».proof.Proof.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 22 tile its block (1 store of `S4096x32`, checked by the kernel's evaluation: Lib/Ring.lean `Piece.tiledL`, linear in the pieces, through a loop's `@[irreducible]` trip theorem too), so they cover it. -/
theorem cover0_A_22 (c : Dev nD) (i : grid0.Coords) (arg1 : Memref sig .tc .vmem S2x3x26x26 .f32) (harg1 : arg1.IsWhole) (arg2 : Memref sig .tc .vmem S26x1 .f32) (harg2 : arg2.IsWhole) (arg3 : Memref sig .tc .vmem S26x1 .f32) (harg3 : arg3.IsWhole) (arg4 : Memref sig .tc .vmem S2x26x32 .f32) (harg4 : arg4.IsWhole) (arg5 : Memref sig .tc .vmem S2x26x32 .f32) (harg5 : arg5.IsWhole) (arg6 : Memref sig .tc .vmem S2x26x32 .f32) (harg6 : arg6.IsWhole) (arg7 : Memref sig .tc .vmem S2x26x32 .f32) (harg7 : arg7.IsWhole) (arg8 : Memref sig .tc .vmem S1x2x1x32x16 .f32) (harg8 : arg8.IsWhole) (arg9 : Memref sig .tc .vmem S2x1x26x16 .f32) (harg9 : arg9.IsWhole) (arg10 : Memref sig .tc .vmem S416x26 .f32) (harg10 : arg10.IsWhole) (arg11 : Memref sig .tc .vmem S1x26 .f32) (harg11 : arg11.IsWhole) (arg12 : Memref sig .tc .vmem S416x26 .f32) (harg12 : arg12.IsWhole) (arg13 : Memref sig .tc .vmem S26x416 .f32) (harg13 : arg13.IsWhole) (arg14 : Memref sig .tc .vmem S416x16 .f32) (harg14 : arg14.IsWhole) (arg15 : Memref sig .tc .vmem S16x416 .f32) (harg15 : arg15.IsWhole) (arg16 : Memref sig .tc .vmem S416x416 .f32) (harg16 : arg16.IsWhole) (arg17 : Memref sig .tc .vmem S26x26 .f32) (harg17 : arg17.IsWhole) (arg18 : Memref sig .tc .vmem S1x26 .f32) (harg18 : arg18.IsWhole) (arg19 : Memref sig .tc .vmem S4096x416 .bf16) (harg19 : arg19.IsWhole) (arg20 : Memref sig .tc .vmem S128x832 .f32) (harg20 : arg20.IsWhole) (arg21 : Memref sig .tc .vmem S832x64 .f32) (harg21 : arg21.IsWhole) (arg22 : Memref sig .tc .vmem S128x64 .f32) (harg22 : arg22.IsWhole) (arg23 : Memref sig .tc .vmem S4096x32 .f32) (harg23 : arg23.IsWhole) (arg24 : Memref sig .tc .vmem S416x960 .bf16) (harg24 : arg24.IsWhole) (arg25 : Memref sig .tc .vmem S1x960 .f32) (harg25 : arg25.IsWhole) (hc0 : cond0_0 i)
    (x0 : Vec F S2x3x26x26 .f32) (x1 : Vec F S26x1 .f32) (x2 : Vec F S26x1 .f32) (x3 : Vec F S2x26x32 .f32) (x4 : Vec F S2x26x32 .f32) (x5 : Vec F S2x26x32 .f32) (x6 : Vec F S2x26x32 .f32) (x7 : Vec F S1x2x1x32x16 .f32) (x8 : Vec F S2x1x26x16 .f32) (x9 : Vec F S416x26 .f32) (x10 : Vec F S1x26 .f32) (x11 : Vec F S416x26 .f32) (x12 : Vec F S26x416 .f32) (x13 : Vec F S416x16 .f32) (x14 : Vec F S16x416 .f32) (x15 : Vec F S416x416 .f32) (x16 : Vec F S26x26 .f32) (x17 : Vec F S1x26 .f32) (x18 : Vec F S4096x416 .bf16) (x19 : Vec F S128x832 .f32) (x20 : Vec F S832x64 .f32) (x21 : Vec F S128x64 .f32) (y : S4096x32.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 x20 x21).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 x20 x21).1 S4096x32.size (by sl_kernel_rfl) y

/-- What case A leaves in output 22's staging buffer: its pieces read back over junk. -/
def out0_A_22 (c : Dev nD) (i : grid0.Coords) (arg1 : Memref sig .tc .vmem S2x3x26x26 .f32) (harg1 : arg1.IsWhole) (arg2 : Memref sig .tc .vmem S26x1 .f32) (harg2 : arg2.IsWhole) (arg3 : Memref sig .tc .vmem S26x1 .f32) (harg3 : arg3.IsWhole) (arg4 : Memref sig .tc .vmem S2x26x32 .f32) (harg4 : arg4.IsWhole) (arg5 : Memref sig .tc .vmem S2x26x32 .f32) (harg5 : arg5.IsWhole) (arg6 : Memref sig .tc .vmem S2x26x32 .f32) (harg6 : arg6.IsWhole) (arg7 : Memref sig .tc .vmem S2x26x32 .f32) (harg7 : arg7.IsWhole) (arg8 : Memref sig .tc .vmem S1x2x1x32x16 .f32) (harg8 : arg8.IsWhole) (arg9 : Memref sig .tc .vmem S2x1x26x16 .f32) (harg9 : arg9.IsWhole) (arg10 : Memref sig .tc .vmem S416x26 .f32) (harg10 : arg10.IsWhole) (arg11 : Memref sig .tc .vmem S1x26 .f32) (harg11 : arg11.IsWhole) (arg12 : Memref sig .tc .vmem S416x26 .f32) (harg12 : arg12.IsWhole) (arg13 : Memref sig .tc .vmem S26x416 .f32) (harg13 : arg13.IsWhole) (arg14 : Memref sig .tc .vmem S416x16 .f32) (harg14 : arg14.IsWhole) (arg15 : Memref sig .tc .vmem S16x416 .f32) (harg15 : arg15.IsWhole) (arg16 : Memref sig .tc .vmem S416x416 .f32) (harg16 : arg16.IsWhole) (arg17 : Memref sig .tc .vmem S26x26 .f32) (harg17 : arg17.IsWhole) (arg18 : Memref sig .tc .vmem S1x26 .f32) (harg18 : arg18.IsWhole) (arg19 : Memref sig .tc .vmem S4096x416 .bf16) (harg19 : arg19.IsWhole) (arg20 : Memref sig .tc .vmem S128x832 .f32) (harg20 : arg20.IsWhole) (arg21 : Memref sig .tc .vmem S832x64 .f32) (harg21 : arg21.IsWhole) (arg22 : Memref sig .tc .vmem S128x64 .f32) (harg22 : arg22.IsWhole) (arg23 : Memref sig .tc .vmem S4096x32 .f32) (harg23 : arg23.IsWhole) (arg24 : Memref sig .tc .vmem S416x960 .bf16) (harg24 : arg24.IsWhole) (arg25 : Memref sig .tc .vmem S1x960 .f32) (harg25 : arg25.IsWhole) (hc0 : cond0_0 i)
    (x0 : Vec F S2x3x26x26 .f32) (x1 : Vec F S26x1 .f32) (x2 : Vec F S26x1 .f32) (x3 : Vec F S2x26x32 .f32) (x4 : Vec F S2x26x32 .f32) (x5 : Vec F S2x26x32 .f32) (x6 : Vec F S2x26x32 .f32) (x7 : Vec F S1x2x1x32x16 .f32) (x8 : Vec F S2x1x26x16 .f32) (x9 : Vec F S416x26 .f32) (x10 : Vec F S1x26 .f32) (x11 : Vec F S416x26 .f32) (x12 : Vec F S26x416 .f32) (x13 : Vec F S416x16 .f32) (x14 : Vec F S16x416 .f32) (x15 : Vec F S416x416 .f32) (x16 : Vec F S26x26 .f32) (x17 : Vec F S1x26 .f32) (x18 : Vec F S4096x416 .bf16) (x19 : Vec F S128x832 .f32) (x20 : Vec F S832x64 .f32) (x21 : Vec F S128x64 .f32) : Vec F S4096x32 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 x20 x21).1)

/-- Case A's pieces for scratch `arg24`, which the kernel carries between points, cover it: 6 pieces (stores and landed copies) of several sizes (`S416x26`, `S416x38`, `S416x416`) tiling it when cut into blocks of `![416, 2]` (Lib/Ring.lean `Piece.tiledBy`). -/
theorem scover0_A_0 (c : Dev nD) (i : grid0.Coords) (arg1 : Memref sig .tc .vmem S2x3x26x26 .f32) (harg1 : arg1.IsWhole) (arg2 : Memref sig .tc .vmem S26x1 .f32) (harg2 : arg2.IsWhole) (arg3 : Memref sig .tc .vmem S26x1 .f32) (harg3 : arg3.IsWhole) (arg4 : Memref sig .tc .vmem S2x26x32 .f32) (harg4 : arg4.IsWhole) (arg5 : Memref sig .tc .vmem S2x26x32 .f32) (harg5 : arg5.IsWhole) (arg6 : Memref sig .tc .vmem S2x26x32 .f32) (harg6 : arg6.IsWhole) (arg7 : Memref sig .tc .vmem S2x26x32 .f32) (harg7 : arg7.IsWhole) (arg8 : Memref sig .tc .vmem S1x2x1x32x16 .f32) (harg8 : arg8.IsWhole) (arg9 : Memref sig .tc .vmem S2x1x26x16 .f32) (harg9 : arg9.IsWhole) (arg10 : Memref sig .tc .vmem S416x26 .f32) (harg10 : arg10.IsWhole) (arg11 : Memref sig .tc .vmem S1x26 .f32) (harg11 : arg11.IsWhole) (arg12 : Memref sig .tc .vmem S416x26 .f32) (harg12 : arg12.IsWhole) (arg13 : Memref sig .tc .vmem S26x416 .f32) (harg13 : arg13.IsWhole) (arg14 : Memref sig .tc .vmem S416x16 .f32) (harg14 : arg14.IsWhole) (arg15 : Memref sig .tc .vmem S16x416 .f32) (harg15 : arg15.IsWhole) (arg16 : Memref sig .tc .vmem S416x416 .f32) (harg16 : arg16.IsWhole) (arg17 : Memref sig .tc .vmem S26x26 .f32) (harg17 : arg17.IsWhole) (arg18 : Memref sig .tc .vmem S1x26 .f32) (harg18 : arg18.IsWhole) (arg19 : Memref sig .tc .vmem S4096x416 .bf16) (harg19 : arg19.IsWhole) (arg20 : Memref sig .tc .vmem S128x832 .f32) (harg20 : arg20.IsWhole) (arg21 : Memref sig .tc .vmem S832x64 .f32) (harg21 : arg21.IsWhole) (arg22 : Memref sig .tc .vmem S128x64 .f32) (harg22 : arg22.IsWhole) (arg23 : Memref sig .tc .vmem S4096x32 .f32) (harg23 : arg23.IsWhole) (arg24 : Memref sig .tc .vmem S416x960 .bf16) (harg24 : arg24.IsWhole) (arg25 : Memref sig .tc .vmem S1x960 .f32) (harg25 : arg25.IsWhole) (hc0 : cond0_0 i)
    (x0 : Vec F S2x3x26x26 .f32) (x1 : Vec F S26x1 .f32) (x2 : Vec F S26x1 .f32) (x3 : Vec F S2x26x32 .f32) (x4 : Vec F S2x26x32 .f32) (x5 : Vec F S2x26x32 .f32) (x6 : Vec F S2x26x32 .f32) (x7 : Vec F S1x2x1x32x16 .f32) (x8 : Vec F S2x1x26x16 .f32) (x9 : Vec F S416x26 .f32) (x10 : Vec F S1x26 .f32) (x11 : Vec F S416x26 .f32) (x12 : Vec F S26x416 .f32) (x13 : Vec F S416x16 .f32) (x14 : Vec F S16x416 .f32) (x15 : Vec F S416x416 .f32) (x16 : Vec F S26x26 .f32) (x17 : Vec F S1x26 .f32) (x18 : Vec F S4096x416 .bf16) (x19 : Vec F S128x832 .f32) (x20 : Vec F S832x64 .f32) (x21 : Vec F S128x64 .f32) (y : S416x960.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 x20 x21).2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 x20 x21).2.1 ![416, 2] (by sl_kernel_rfl) y

/-- What case A leaves in scratch `arg24`: its pieces read back over junk. -/
def sout0_A_0 (c : Dev nD) (i : grid0.Coords) (arg1 : Memref sig .tc .vmem S2x3x26x26 .f32) (harg1 : arg1.IsWhole) (arg2 : Memref sig .tc .vmem S26x1 .f32) (harg2 : arg2.IsWhole) (arg3 : Memref sig .tc .vmem S26x1 .f32) (harg3 : arg3.IsWhole) (arg4 : Memref sig .tc .vmem S2x26x32 .f32) (harg4 : arg4.IsWhole) (arg5 : Memref sig .tc .vmem S2x26x32 .f32) (harg5 : arg5.IsWhole) (arg6 : Memref sig .tc .vmem S2x26x32 .f32) (harg6 : arg6.IsWhole) (arg7 : Memref sig .tc .vmem S2x26x32 .f32) (harg7 : arg7.IsWhole) (arg8 : Memref sig .tc .vmem S1x2x1x32x16 .f32) (harg8 : arg8.IsWhole) (arg9 : Memref sig .tc .vmem S2x1x26x16 .f32) (harg9 : arg9.IsWhole) (arg10 : Memref sig .tc .vmem S416x26 .f32) (harg10 : arg10.IsWhole) (arg11 : Memref sig .tc .vmem S1x26 .f32) (harg11 : arg11.IsWhole) (arg12 : Memref sig .tc .vmem S416x26 .f32) (harg12 : arg12.IsWhole) (arg13 : Memref sig .tc .vmem S26x416 .f32) (harg13 : arg13.IsWhole) (arg14 : Memref sig .tc .vmem S416x16 .f32) (harg14 : arg14.IsWhole) (arg15 : Memref sig .tc .vmem S16x416 .f32) (harg15 : arg15.IsWhole) (arg16 : Memref sig .tc .vmem S416x416 .f32) (harg16 : arg16.IsWhole) (arg17 : Memref sig .tc .vmem S26x26 .f32) (harg17 : arg17.IsWhole) (arg18 : Memref sig .tc .vmem S1x26 .f32) (harg18 : arg18.IsWhole) (arg19 : Memref sig .tc .vmem S4096x416 .bf16) (harg19 : arg19.IsWhole) (arg20 : Memref sig .tc .vmem S128x832 .f32) (harg20 : arg20.IsWhole) (arg21 : Memref sig .tc .vmem S832x64 .f32) (harg21 : arg21.IsWhole) (arg22 : Memref sig .tc .vmem S128x64 .f32) (harg22 : arg22.IsWhole) (arg23 : Memref sig .tc .vmem S4096x32 .f32) (harg23 : arg23.IsWhole) (arg24 : Memref sig .tc .vmem S416x960 .bf16) (harg24 : arg24.IsWhole) (arg25 : Memref sig .tc .vmem S1x960 .f32) (harg25 : arg25.IsWhole) (hc0 : cond0_0 i)
    (x0 : Vec F S2x3x26x26 .f32) (x1 : Vec F S26x1 .f32) (x2 : Vec F S26x1 .f32) (x3 : Vec F S2x26x32 .f32) (x4 : Vec F S2x26x32 .f32) (x5 : Vec F S2x26x32 .f32) (x6 : Vec F S2x26x32 .f32) (x7 : Vec F S1x2x1x32x16 .f32) (x8 : Vec F S2x1x26x16 .f32) (x9 : Vec F S416x26 .f32) (x10 : Vec F S1x26 .f32) (x11 : Vec F S416x26 .f32) (x12 : Vec F S26x416 .f32) (x13 : Vec F S416x16 .f32) (x14 : Vec F S16x416 .f32) (x15 : Vec F S416x416 .f32) (x16 : Vec F S26x26 .f32) (x17 : Vec F S1x26 .f32) (x18 : Vec F S4096x416 .bf16) (x19 : Vec F S128x832 .f32) (x20 : Vec F S832x64 .f32) (x21 : Vec F S128x64 .f32) : Vec F S416x960 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 x20 x21).2.1)

/-- Case A's pieces for scratch `arg25`, which the kernel carries between points, cover it: one of them a store of the WHOLE buffer (Lib/Ring.lean `sl_whole_mem`). -/
theorem scover0_A_1 (c : Dev nD) (i : grid0.Coords) (arg1 : Memref sig .tc .vmem S2x3x26x26 .f32) (harg1 : arg1.IsWhole) (arg2 : Memref sig .tc .vmem S26x1 .f32) (harg2 : arg2.IsWhole) (arg3 : Memref sig .tc .vmem S26x1 .f32) (harg3 : arg3.IsWhole) (arg4 : Memref sig .tc .vmem S2x26x32 .f32) (harg4 : arg4.IsWhole) (arg5 : Memref sig .tc .vmem S2x26x32 .f32) (harg5 : arg5.IsWhole) (arg6 : Memref sig .tc .vmem S2x26x32 .f32) (harg6 : arg6.IsWhole) (arg7 : Memref sig .tc .vmem S2x26x32 .f32) (harg7 : arg7.IsWhole) (arg8 : Memref sig .tc .vmem S1x2x1x32x16 .f32) (harg8 : arg8.IsWhole) (arg9 : Memref sig .tc .vmem S2x1x26x16 .f32) (harg9 : arg9.IsWhole) (arg10 : Memref sig .tc .vmem S416x26 .f32) (harg10 : arg10.IsWhole) (arg11 : Memref sig .tc .vmem S1x26 .f32) (harg11 : arg11.IsWhole) (arg12 : Memref sig .tc .vmem S416x26 .f32) (harg12 : arg12.IsWhole) (arg13 : Memref sig .tc .vmem S26x416 .f32) (harg13 : arg13.IsWhole) (arg14 : Memref sig .tc .vmem S416x16 .f32) (harg14 : arg14.IsWhole) (arg15 : Memref sig .tc .vmem S16x416 .f32) (harg15 : arg15.IsWhole) (arg16 : Memref sig .tc .vmem S416x416 .f32) (harg16 : arg16.IsWhole) (arg17 : Memref sig .tc .vmem S26x26 .f32) (harg17 : arg17.IsWhole) (arg18 : Memref sig .tc .vmem S1x26 .f32) (harg18 : arg18.IsWhole) (arg19 : Memref sig .tc .vmem S4096x416 .bf16) (harg19 : arg19.IsWhole) (arg20 : Memref sig .tc .vmem S128x832 .f32) (harg20 : arg20.IsWhole) (arg21 : Memref sig .tc .vmem S832x64 .f32) (harg21 : arg21.IsWhole) (arg22 : Memref sig .tc .vmem S128x64 .f32) (harg22 : arg22.IsWhole) (arg23 : Memref sig .tc .vmem S4096x32 .f32) (harg23 : arg23.IsWhole) (arg24 : Memref sig .tc .vmem S416x960 .bf16) (harg24 : arg24.IsWhole) (arg25 : Memref sig .tc .vmem S1x960 .f32) (harg25 : arg25.IsWhole) (hc0 : cond0_0 i)
    (x0 : Vec F S2x3x26x26 .f32) (x1 : Vec F S26x1 .f32) (x2 : Vec F S26x1 .f32) (x3 : Vec F S2x26x32 .f32) (x4 : Vec F S2x26x32 .f32) (x5 : Vec F S2x26x32 .f32) (x6 : Vec F S2x26x32 .f32) (x7 : Vec F S1x2x1x32x16 .f32) (x8 : Vec F S2x1x26x16 .f32) (x9 : Vec F S416x26 .f32) (x10 : Vec F S1x26 .f32) (x11 : Vec F S416x26 .f32) (x12 : Vec F S26x416 .f32) (x13 : Vec F S416x16 .f32) (x14 : Vec F S16x416 .f32) (x15 : Vec F S416x416 .f32) (x16 : Vec F S26x26 .f32) (x17 : Vec F S1x26 .f32) (x18 : Vec F S4096x416 .bf16) (x19 : Vec F S128x832 .f32) (x20 : Vec F S832x64 .f32) (x21 : Vec F S128x64 .f32) (y : S1x960.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 x20 x21).2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 x20 x21).2.2.1 (by sl_whole_mem) y

/-- What case A leaves in scratch `arg25`: its pieces read back over junk. -/
def sout0_A_1 (c : Dev nD) (i : grid0.Coords) (arg1 : Memref sig .tc .vmem S2x3x26x26 .f32) (harg1 : arg1.IsWhole) (arg2 : Memref sig .tc .vmem S26x1 .f32) (harg2 : arg2.IsWhole) (arg3 : Memref sig .tc .vmem S26x1 .f32) (harg3 : arg3.IsWhole) (arg4 : Memref sig .tc .vmem S2x26x32 .f32) (harg4 : arg4.IsWhole) (arg5 : Memref sig .tc .vmem S2x26x32 .f32) (harg5 : arg5.IsWhole) (arg6 : Memref sig .tc .vmem S2x26x32 .f32) (harg6 : arg6.IsWhole) (arg7 : Memref sig .tc .vmem S2x26x32 .f32) (harg7 : arg7.IsWhole) (arg8 : Memref sig .tc .vmem S1x2x1x32x16 .f32) (harg8 : arg8.IsWhole) (arg9 : Memref sig .tc .vmem S2x1x26x16 .f32) (harg9 : arg9.IsWhole) (arg10 : Memref sig .tc .vmem S416x26 .f32) (harg10 : arg10.IsWhole) (arg11 : Memref sig .tc .vmem S1x26 .f32) (harg11 : arg11.IsWhole) (arg12 : Memref sig .tc .vmem S416x26 .f32) (harg12 : arg12.IsWhole) (arg13 : Memref sig .tc .vmem S26x416 .f32) (harg13 : arg13.IsWhole) (arg14 : Memref sig .tc .vmem S416x16 .f32) (harg14 : arg14.IsWhole) (arg15 : Memref sig .tc .vmem S16x416 .f32) (harg15 : arg15.IsWhole) (arg16 : Memref sig .tc .vmem S416x416 .f32) (harg16 : arg16.IsWhole) (arg17 : Memref sig .tc .vmem S26x26 .f32) (harg17 : arg17.IsWhole) (arg18 : Memref sig .tc .vmem S1x26 .f32) (harg18 : arg18.IsWhole) (arg19 : Memref sig .tc .vmem S4096x416 .bf16) (harg19 : arg19.IsWhole) (arg20 : Memref sig .tc .vmem S128x832 .f32) (harg20 : arg20.IsWhole) (arg21 : Memref sig .tc .vmem S832x64 .f32) (harg21 : arg21.IsWhole) (arg22 : Memref sig .tc .vmem S128x64 .f32) (harg22 : arg22.IsWhole) (arg23 : Memref sig .tc .vmem S4096x32 .f32) (harg23 : arg23.IsWhole) (arg24 : Memref sig .tc .vmem S416x960 .bf16) (harg24 : arg24.IsWhole) (arg25 : Memref sig .tc .vmem S1x960 .f32) (harg25 : arg25.IsWhole) (hc0 : cond0_0 i)
    (x0 : Vec F S2x3x26x26 .f32) (x1 : Vec F S26x1 .f32) (x2 : Vec F S26x1 .f32) (x3 : Vec F S2x26x32 .f32) (x4 : Vec F S2x26x32 .f32) (x5 : Vec F S2x26x32 .f32) (x6 : Vec F S2x26x32 .f32) (x7 : Vec F S1x2x1x32x16 .f32) (x8 : Vec F S2x1x26x16 .f32) (x9 : Vec F S416x26 .f32) (x10 : Vec F S1x26 .f32) (x11 : Vec F S416x26 .f32) (x12 : Vec F S26x416 .f32) (x13 : Vec F S416x16 .f32) (x14 : Vec F S16x416 .f32) (x15 : Vec F S416x416 .f32) (x16 : Vec F S26x26 .f32) (x17 : Vec F S1x26 .f32) (x18 : Vec F S4096x416 .bf16) (x19 : Vec F S128x832 .f32) (x20 : Vec F S832x64 .f32) (x21 : Vec F S128x64 .f32) : Vec F S1x960 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 x20 x21).2.2.1)

/-- Case B's pieces for output 22 tile its block (1 store of `S4096x32`, checked by the kernel's evaluation: Lib/Ring.lean `Piece.tiledL`, linear in the pieces, through a loop's `@[irreducible]` trip theorem too), so they cover it. -/
theorem cover0_B_22 (c : Dev nD) (i : grid0.Coords) (arg1 : Memref sig .tc .vmem S2x3x26x26 .f32) (harg1 : arg1.IsWhole) (arg2 : Memref sig .tc .vmem S26x1 .f32) (harg2 : arg2.IsWhole) (arg3 : Memref sig .tc .vmem S26x1 .f32) (harg3 : arg3.IsWhole) (arg4 : Memref sig .tc .vmem S2x26x32 .f32) (harg4 : arg4.IsWhole) (arg5 : Memref sig .tc .vmem S2x26x32 .f32) (harg5 : arg5.IsWhole) (arg6 : Memref sig .tc .vmem S2x26x32 .f32) (harg6 : arg6.IsWhole) (arg7 : Memref sig .tc .vmem S2x26x32 .f32) (harg7 : arg7.IsWhole) (arg8 : Memref sig .tc .vmem S1x2x1x32x16 .f32) (harg8 : arg8.IsWhole) (arg9 : Memref sig .tc .vmem S2x1x26x16 .f32) (harg9 : arg9.IsWhole) (arg10 : Memref sig .tc .vmem S416x26 .f32) (harg10 : arg10.IsWhole) (arg11 : Memref sig .tc .vmem S1x26 .f32) (harg11 : arg11.IsWhole) (arg12 : Memref sig .tc .vmem S416x26 .f32) (harg12 : arg12.IsWhole) (arg13 : Memref sig .tc .vmem S26x416 .f32) (harg13 : arg13.IsWhole) (arg14 : Memref sig .tc .vmem S416x16 .f32) (harg14 : arg14.IsWhole) (arg15 : Memref sig .tc .vmem S16x416 .f32) (harg15 : arg15.IsWhole) (arg16 : Memref sig .tc .vmem S416x416 .f32) (harg16 : arg16.IsWhole) (arg17 : Memref sig .tc .vmem S26x26 .f32) (harg17 : arg17.IsWhole) (arg18 : Memref sig .tc .vmem S1x26 .f32) (harg18 : arg18.IsWhole) (arg19 : Memref sig .tc .vmem S4096x416 .bf16) (harg19 : arg19.IsWhole) (arg20 : Memref sig .tc .vmem S128x832 .f32) (harg20 : arg20.IsWhole) (arg21 : Memref sig .tc .vmem S832x64 .f32) (harg21 : arg21.IsWhole) (arg22 : Memref sig .tc .vmem S128x64 .f32) (harg22 : arg22.IsWhole) (arg23 : Memref sig .tc .vmem S4096x32 .f32) (harg23 : arg23.IsWhole) (arg24 : Memref sig .tc .vmem S416x960 .bf16) (harg24 : arg24.IsWhole) (arg25 : Memref sig .tc .vmem S1x960 .f32) (harg25 : arg25.IsWhole) (hc0 : ¬cond0_0 i)
    (x0 : Vec F S2x3x26x26 .f32) (x1 : Vec F S26x1 .f32) (x2 : Vec F S26x1 .f32) (x3 : Vec F S2x26x32 .f32) (x4 : Vec F S2x26x32 .f32) (x5 : Vec F S2x26x32 .f32) (x6 : Vec F S2x26x32 .f32) (x7 : Vec F S1x2x1x32x16 .f32) (x8 : Vec F S2x1x26x16 .f32) (x9 : Vec F S416x26 .f32) (x10 : Vec F S1x26 .f32) (x11 : Vec F S416x26 .f32) (x12 : Vec F S26x416 .f32) (x13 : Vec F S416x16 .f32) (x14 : Vec F S16x416 .f32) (x15 : Vec F S416x416 .f32) (x16 : Vec F S26x26 .f32) (x17 : Vec F S1x26 .f32) (x18 : Vec F S4096x416 .bf16) (x19 : Vec F S128x832 .f32) (x20 : Vec F S832x64 .f32) (x21 : Vec F S128x64 .f32) (xs0 : Vec F S416x960 .bf16) (xs1 : Vec F S1x960 .f32) (y : S4096x32.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 x20 x21 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 x20 x21 xs0 xs1).1 S4096x32.size (by sl_kernel_rfl) y

/-- What case B leaves in output 22's staging buffer: its pieces read back over junk. -/
def out0_B_22 (c : Dev nD) (i : grid0.Coords) (arg1 : Memref sig .tc .vmem S2x3x26x26 .f32) (harg1 : arg1.IsWhole) (arg2 : Memref sig .tc .vmem S26x1 .f32) (harg2 : arg2.IsWhole) (arg3 : Memref sig .tc .vmem S26x1 .f32) (harg3 : arg3.IsWhole) (arg4 : Memref sig .tc .vmem S2x26x32 .f32) (harg4 : arg4.IsWhole) (arg5 : Memref sig .tc .vmem S2x26x32 .f32) (harg5 : arg5.IsWhole) (arg6 : Memref sig .tc .vmem S2x26x32 .f32) (harg6 : arg6.IsWhole) (arg7 : Memref sig .tc .vmem S2x26x32 .f32) (harg7 : arg7.IsWhole) (arg8 : Memref sig .tc .vmem S1x2x1x32x16 .f32) (harg8 : arg8.IsWhole) (arg9 : Memref sig .tc .vmem S2x1x26x16 .f32) (harg9 : arg9.IsWhole) (arg10 : Memref sig .tc .vmem S416x26 .f32) (harg10 : arg10.IsWhole) (arg11 : Memref sig .tc .vmem S1x26 .f32) (harg11 : arg11.IsWhole) (arg12 : Memref sig .tc .vmem S416x26 .f32) (harg12 : arg12.IsWhole) (arg13 : Memref sig .tc .vmem S26x416 .f32) (harg13 : arg13.IsWhole) (arg14 : Memref sig .tc .vmem S416x16 .f32) (harg14 : arg14.IsWhole) (arg15 : Memref sig .tc .vmem S16x416 .f32) (harg15 : arg15.IsWhole) (arg16 : Memref sig .tc .vmem S416x416 .f32) (harg16 : arg16.IsWhole) (arg17 : Memref sig .tc .vmem S26x26 .f32) (harg17 : arg17.IsWhole) (arg18 : Memref sig .tc .vmem S1x26 .f32) (harg18 : arg18.IsWhole) (arg19 : Memref sig .tc .vmem S4096x416 .bf16) (harg19 : arg19.IsWhole) (arg20 : Memref sig .tc .vmem S128x832 .f32) (harg20 : arg20.IsWhole) (arg21 : Memref sig .tc .vmem S832x64 .f32) (harg21 : arg21.IsWhole) (arg22 : Memref sig .tc .vmem S128x64 .f32) (harg22 : arg22.IsWhole) (arg23 : Memref sig .tc .vmem S4096x32 .f32) (harg23 : arg23.IsWhole) (arg24 : Memref sig .tc .vmem S416x960 .bf16) (harg24 : arg24.IsWhole) (arg25 : Memref sig .tc .vmem S1x960 .f32) (harg25 : arg25.IsWhole) (hc0 : ¬cond0_0 i)
    (x0 : Vec F S2x3x26x26 .f32) (x1 : Vec F S26x1 .f32) (x2 : Vec F S26x1 .f32) (x3 : Vec F S2x26x32 .f32) (x4 : Vec F S2x26x32 .f32) (x5 : Vec F S2x26x32 .f32) (x6 : Vec F S2x26x32 .f32) (x7 : Vec F S1x2x1x32x16 .f32) (x8 : Vec F S2x1x26x16 .f32) (x9 : Vec F S416x26 .f32) (x10 : Vec F S1x26 .f32) (x11 : Vec F S416x26 .f32) (x12 : Vec F S26x416 .f32) (x13 : Vec F S416x16 .f32) (x14 : Vec F S16x416 .f32) (x15 : Vec F S416x416 .f32) (x16 : Vec F S26x26 .f32) (x17 : Vec F S1x26 .f32) (x18 : Vec F S4096x416 .bf16) (x19 : Vec F S128x832 .f32) (x20 : Vec F S832x64 .f32) (x21 : Vec F S128x64 .f32) (xs0 : Vec F S416x960 .bf16) (xs1 : Vec F S1x960 .f32) : Vec F S4096x32 .f32 :=
  VO0_22.read (Elt F) (VO0_22.writes (Elt F) VO0_22.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 x20 x21 xs0 xs1).1)

/-- Case B stores nothing into scratch `arg24`: it holds what the point before left. -/
def sout0_B_0 (c : Dev nD) (i : grid0.Coords) (arg1 : Memref sig .tc .vmem S2x3x26x26 .f32) (harg1 : arg1.IsWhole) (arg2 : Memref sig .tc .vmem S26x1 .f32) (harg2 : arg2.IsWhole) (arg3 : Memref sig .tc .vmem S26x1 .f32) (harg3 : arg3.IsWhole) (arg4 : Memref sig .tc .vmem S2x26x32 .f32) (harg4 : arg4.IsWhole) (arg5 : Memref sig .tc .vmem S2x26x32 .f32) (harg5 : arg5.IsWhole) (arg6 : Memref sig .tc .vmem S2x26x32 .f32) (harg6 : arg6.IsWhole) (arg7 : Memref sig .tc .vmem S2x26x32 .f32) (harg7 : arg7.IsWhole) (arg8 : Memref sig .tc .vmem S1x2x1x32x16 .f32) (harg8 : arg8.IsWhole) (arg9 : Memref sig .tc .vmem S2x1x26x16 .f32) (harg9 : arg9.IsWhole) (arg10 : Memref sig .tc .vmem S416x26 .f32) (harg10 : arg10.IsWhole) (arg11 : Memref sig .tc .vmem S1x26 .f32) (harg11 : arg11.IsWhole) (arg12 : Memref sig .tc .vmem S416x26 .f32) (harg12 : arg12.IsWhole) (arg13 : Memref sig .tc .vmem S26x416 .f32) (harg13 : arg13.IsWhole) (arg14 : Memref sig .tc .vmem S416x16 .f32) (harg14 : arg14.IsWhole) (arg15 : Memref sig .tc .vmem S16x416 .f32) (harg15 : arg15.IsWhole) (arg16 : Memref sig .tc .vmem S416x416 .f32) (harg16 : arg16.IsWhole) (arg17 : Memref sig .tc .vmem S26x26 .f32) (harg17 : arg17.IsWhole) (arg18 : Memref sig .tc .vmem S1x26 .f32) (harg18 : arg18.IsWhole) (arg19 : Memref sig .tc .vmem S4096x416 .bf16) (harg19 : arg19.IsWhole) (arg20 : Memref sig .tc .vmem S128x832 .f32) (harg20 : arg20.IsWhole) (arg21 : Memref sig .tc .vmem S832x64 .f32) (harg21 : arg21.IsWhole) (arg22 : Memref sig .tc .vmem S128x64 .f32) (harg22 : arg22.IsWhole) (arg23 : Memref sig .tc .vmem S4096x32 .f32) (harg23 : arg23.IsWhole) (arg24 : Memref sig .tc .vmem S416x960 .bf16) (harg24 : arg24.IsWhole) (arg25 : Memref sig .tc .vmem S1x960 .f32) (harg25 : arg25.IsWhole) (hc0 : ¬cond0_0 i)
    (x0 : Vec F S2x3x26x26 .f32) (x1 : Vec F S26x1 .f32) (x2 : Vec F S26x1 .f32) (x3 : Vec F S2x26x32 .f32) (x4 : Vec F S2x26x32 .f32) (x5 : Vec F S2x26x32 .f32) (x6 : Vec F S2x26x32 .f32) (x7 : Vec F S1x2x1x32x16 .f32) (x8 : Vec F S2x1x26x16 .f32) (x9 : Vec F S416x26 .f32) (x10 : Vec F S1x26 .f32) (x11 : Vec F S416x26 .f32) (x12 : Vec F S26x416 .f32) (x13 : Vec F S416x16 .f32) (x14 : Vec F S16x416 .f32) (x15 : Vec F S416x416 .f32) (x16 : Vec F S26x26 .f32) (x17 : Vec F S1x26 .f32) (x18 : Vec F S4096x416 .bf16) (x19 : Vec F S128x832 .f32) (x20 : Vec F S832x64 .f32) (x21 : Vec F S128x64 .f32) (xs0 : Vec F S416x960 .bf16) (xs1 : Vec F S1x960 .f32) : Vec F S416x960 .bf16 := xs0

/-- Case B stores nothing into scratch `arg25`: it holds what the point before left. -/
def sout0_B_1 (c : Dev nD) (i : grid0.Coords) (arg1 : Memref sig .tc .vmem S2x3x26x26 .f32) (harg1 : arg1.IsWhole) (arg2 : Memref sig .tc .vmem S26x1 .f32) (harg2 : arg2.IsWhole) (arg3 : Memref sig .tc .vmem S26x1 .f32) (harg3 : arg3.IsWhole) (arg4 : Memref sig .tc .vmem S2x26x32 .f32) (harg4 : arg4.IsWhole) (arg5 : Memref sig .tc .vmem S2x26x32 .f32) (harg5 : arg5.IsWhole) (arg6 : Memref sig .tc .vmem S2x26x32 .f32) (harg6 : arg6.IsWhole) (arg7 : Memref sig .tc .vmem S2x26x32 .f32) (harg7 : arg7.IsWhole) (arg8 : Memref sig .tc .vmem S1x2x1x32x16 .f32) (harg8 : arg8.IsWhole) (arg9 : Memref sig .tc .vmem S2x1x26x16 .f32) (harg9 : arg9.IsWhole) (arg10 : Memref sig .tc .vmem S416x26 .f32) (harg10 : arg10.IsWhole) (arg11 : Memref sig .tc .vmem S1x26 .f32) (harg11 : arg11.IsWhole) (arg12 : Memref sig .tc .vmem S416x26 .f32) (harg12 : arg12.IsWhole) (arg13 : Memref sig .tc .vmem S26x416 .f32) (harg13 : arg13.IsWhole) (arg14 : Memref sig .tc .vmem S416x16 .f32) (harg14 : arg14.IsWhole) (arg15 : Memref sig .tc .vmem S16x416 .f32) (harg15 : arg15.IsWhole) (arg16 : Memref sig .tc .vmem S416x416 .f32) (harg16 : arg16.IsWhole) (arg17 : Memref sig .tc .vmem S26x26 .f32) (harg17 : arg17.IsWhole) (arg18 : Memref sig .tc .vmem S1x26 .f32) (harg18 : arg18.IsWhole) (arg19 : Memref sig .tc .vmem S4096x416 .bf16) (harg19 : arg19.IsWhole) (arg20 : Memref sig .tc .vmem S128x832 .f32) (harg20 : arg20.IsWhole) (arg21 : Memref sig .tc .vmem S832x64 .f32) (harg21 : arg21.IsWhole) (arg22 : Memref sig .tc .vmem S128x64 .f32) (harg22 : arg22.IsWhole) (arg23 : Memref sig .tc .vmem S4096x32 .f32) (harg23 : arg23.IsWhole) (arg24 : Memref sig .tc .vmem S416x960 .bf16) (harg24 : arg24.IsWhole) (arg25 : Memref sig .tc .vmem S1x960 .f32) (harg25 : arg25.IsWhole) (hc0 : ¬cond0_0 i)
    (x0 : Vec F S2x3x26x26 .f32) (x1 : Vec F S26x1 .f32) (x2 : Vec F S26x1 .f32) (x3 : Vec F S2x26x32 .f32) (x4 : Vec F S2x26x32 .f32) (x5 : Vec F S2x26x32 .f32) (x6 : Vec F S2x26x32 .f32) (x7 : Vec F S1x2x1x32x16 .f32) (x8 : Vec F S2x1x26x16 .f32) (x9 : Vec F S416x26 .f32) (x10 : Vec F S1x26 .f32) (x11 : Vec F S416x26 .f32) (x12 : Vec F S26x416 .f32) (x13 : Vec F S416x16 .f32) (x14 : Vec F S16x416 .f32) (x15 : Vec F S416x416 .f32) (x16 : Vec F S26x26 .f32) (x17 : Vec F S1x26 .f32) (x18 : Vec F S4096x416 .bf16) (x19 : Vec F S128x832 .f32) (x20 : Vec F S832x64 .f32) (x21 : Vec F S128x64 .f32) (xs0 : Vec F S416x960 .bf16) (xs1 : Vec F S1x960 .f32) : Vec F S1x960 .f32 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S4096x32 .f32 × Vec F S416x960 .bf16 × Vec F S1x960 .f32
  | 0, hn => (out0_A_22 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩))
  | n + 1, hn =>
    if h0 : (n + 1) % 4 = 0 then
      (out0_A_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩))
    else
      (out0_B_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 4 = 0) :
    outsAt0 m c t.val t.isLt = (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 m c t.val t.isLt = (out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => (outsAt0 m c t.val t.isLt).1
    | ⟨_ + 23, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  rw [show (dats m 0 c).Φ t.succ = PhiS m c (t.val + 1) t.isLt from rfl, PhiS_succ]
  have hN : t.val < 4 := lt_of_lt_of_eq t.isLt (show cfg0.N = 4 from N_0)
  by_cases h0 : t.val % 4 = 0
  · by_cases hz : t.val = 0
    · rw [PhiS_castSucc m c t, PhiS_zero m c _ _ hz, PhiA0_eq]
      rw [outsAt0_A m c t h0]
      unfold out0_A_22 sout0_A_0 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexists _; iexact H22
      isplitl [HS0]; · iexact HS0
      isplitl [HS1]; · iexact HS1
      iintro ⟨H0, H1, H2, H3, H4, H5, H6, H7, H8, H9, H10, H11, H12, H13, H14, H15, H16, H17, H18, H19, H20, H21, ⟨%e22, H22⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      unfold owns; iexists _; isplitr
      swap; · iexact H22
      ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; have hN : t.val < 4 := lt_of_lt_of_eq t.isLt (show cfg0.N = 4 from N_0); omega
  · by_cases hz : t.val = 0
    · exfalso; have hN : t.val < 4 := lt_of_lt_of_eq t.isLt (show cfg0.N = 4 from N_0); omega
    · rw [PhiS_castSucc m c t, PhiS_pos m c _ _ hz]
      rw [outsAt0_B m c t h0]
      unfold out0_B_22 sout0_B_0 sout0_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexists _; iexact H22
      isplitl [HS0]; · iexact HS0
      isplitl [HS1]; · iexact HS1
      iintro ⟨H0, H1, H2, H3, H4, H5, H6, H7, H8, H9, H10, H11, H12, H13, H14, H15, H16, H17, H18, H19, H20, H21, ⟨%e22, H22⟩, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      unfold owns; iexists _; isplitr
      swap; · iexact H22
      ipureintro; exact View.read_writes_of_cover _ _ _ _ _ (cover0_B_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 4 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.KernelIdeal.Gen

end
-- ==== Proof.Pick.lean ====
/- Choosing a value by cases on a number: one function per number of cases, and its value. -/
module

public import Idealize.ShloMosaic.Lib.Pointwise
public import Mathlib.Tactic.IntervalCases

@[expose] public section

set_option maxRecDepth 65536

noncomputable section

namespace Cert.Tables

/-- The value of `f` at `x` where `x` is below 4, zero elsewhere, by cases on `x`. -/
def pick4 (f : Nat → BitVec 32) (x : Nat) : BitVec 32 := match x with
  | 0 => f 0
  | 1 => f 1
  | 2 => f 2
  | 3 => f 3
  | _ => 0#32

theorem pick4_eq (f : Nat → BitVec 32) (x : Nat) (h : x < 4) : pick4 f x = f x := by
  interval_cases x <;> rfl

/-- The value of `f` at `x` where `x` is below 6, zero elsewhere, by cases on `x`. -/
def pick6 (f : Nat → BitVec 32) (x : Nat) : BitVec 32 := match x with
  | 0 => f 0
  | 1 => f 1
  | 2 => f 2
  | 3 => f 3
  | 4 => f 4
  | 5 => f 5
  | _ => 0#32

theorem pick6_eq (f : Nat → BitVec 32) (x : Nat) (h : x < 6) : pick6 f x = f x := by
  interval_cases x <;> rfl

/-- The value of `f` at `x` where `x` is below 7, zero elsewhere, by cases on `x`. -/
def pick7 (f : Nat → BitVec 32) (x : Nat) : BitVec 32 := match x with
  | 0 => f 0
  | 1 => f 1
  | 2 => f 2
  | 3 => f 3
  | 4 => f 4
  | 5 => f 5
  | 6 => f 6
  | _ => 0#32

theorem pick7_eq (f : Nat → BitVec 32) (x : Nat) (h : x < 7) : pick7 f x = f x := by
  interval_cases x <;> rfl

/-- The value of `f` at `x` where `x` is below 32, zero elsewhere, by cases on `x`. -/
def pick32 (f : Nat → BitVec 32) (x : Nat) : BitVec 32 := match x with
  | 0 => f 0
  | 1 => f 1
  | 2 => f 2
  | 3 => f 3
  | 4 => f 4
  | 5 => f 5
  | 6 => f 6
  | 7 => f 7
  | 8 => f 8
  | 9 => f 9
  | 10 => f 10
  | 11 => f 11
  | 12 => f 12
  | 13 => f 13
  | 14 => f 14
  | 15 => f 15
  | 16 => f 16
  | 17 => f 17
  | 18 => f 18
  | 19 => f 19
  | 20 => f 20
  | 21 => f 21
  | 22 => f 22
  | 23 => f 23
  | 24 => f 24
  | 25 => f 25
  | 26 => f 26
  | 27 => f 27
  | 28 => f 28
  | 29 => f 29
  | 30 => f 30
  | 31 => f 31
  | _ => 0#32

theorem pick32_eq (f : Nat → BitVec 32) (x : Nat) (h : x < 32) : pick32 f x = f x := by
  interval_cases x <;> rfl

/-- The value of `f` at `x` where `x` is below 36, zero elsewhere, by cases on `x`. -/
def pick36 (f : Nat → BitVec 32) (x : Nat) : BitVec 32 := match x with
  | 0 => f 0
  | 1 => f 1
  | 2 => f 2
  | 3 => f 3
  | 4 => f 4
  | 5 => f 5
  | 6 => f 6
  | 7 => f 7
  | 8 => f 8
  | 9 => f 9
  | 10 => f 10
  | 11 => f 11
  | 12 => f 12
  | 13 => f 13
  | 14 => f 14
  | 15 => f 15
  | 16 => f 16
  | 17 => f 17
  | 18 => f 18
  | 19 => f 19
  | 20 => f 20
  | 21 => f 21
  | 22 => f 22
  | 23 => f 23
  | 24 => f 24
  | 25 => f 25
  | 26 => f 26
  | 27 => f 27
  | 28 => f 28
  | 29 => f 29
  | 30 => f 30
  | 31 => f 31
  | 32 => f 32
  | 33 => f 33
  | 34 => f 34
  | 35 => f 35
  | _ => 0#32

theorem pick36_eq (f : Nat → BitVec 32) (x : Nat) (h : x < 36) : pick36 f x = f x := by
  interval_cases x <;> rfl

/-- The value of `f` at `x` where `x` is below 52, zero elsewhere, by cases on `x`. -/
def pick52 (f : Nat → BitVec 32) (x : Nat) : BitVec 32 := match x with
  | 0 => f 0
  | 1 => f 1
  | 2 => f 2
  | 3 => f 3
  | 4 => f 4
  | 5 => f 5
  | 6 => f 6
  | 7 => f 7
  | 8 => f 8
  | 9 => f 9
  | 10 => f 10
  | 11 => f 11
  | 12 => f 12
  | 13 => f 13
  | 14 => f 14
  | 15 => f 15
  | 16 => f 16
  | 17 => f 17
  | 18 => f 18
  | 19 => f 19
  | 20 => f 20
  | 21 => f 21
  | 22 => f 22
  | 23 => f 23
  | 24 => f 24
  | 25 => f 25
  | 26 => f 26
  | 27 => f 27
  | 28 => f 28
  | 29 => f 29
  | 30 => f 30
  | 31 => f 31
  | 32 => f 32
  | 33 => f 33
  | 34 => f 34
  | 35 => f 35
  | 36 => f 36
  | 37 => f 37
  | 38 => f 38
  | 39 => f 39
  | 40 => f 40
  | 41 => f 41
  | 42 => f 42
  | 43 => f 43
  | 44 => f 44
  | 45 => f 45
  | 46 => f 46
  | 47 => f 47
  | 48 => f 48
  | 49 => f 49
  | 50 => f 50
  | 51 => f 51
  | _ => 0#32

theorem pick52_eq (f : Nat → BitVec 32) (x : Nat) (h : x < 52) : pick52 f x = f x := by
  interval_cases x <;> rfl

/-- The value of `f` at `x` where `x` is below 64, zero elsewhere, by cases on `x`. -/
def pick64 (f : Nat → BitVec 32) (x : Nat) : BitVec 32 := match x with
  | 0 => f 0
  | 1 => f 1
  | 2 => f 2
  | 3 => f 3
  | 4 => f 4
  | 5 => f 5
  | 6 => f 6
  | 7 => f 7
  | 8 => f 8
  | 9 => f 9
  | 10 => f 10
  | 11 => f 11
  | 12 => f 12
  | 13 => f 13
  | 14 => f 14
  | 15 => f 15
  | 16 => f 16
  | 17 => f 17
  | 18 => f 18
  | 19 => f 19
  | 20 => f 20
  | 21 => f 21
  | 22 => f 22
  | 23 => f 23
  | 24 => f 24
  | 25 => f 25
  | 26 => f 26
  | 27 => f 27
  | 28 => f 28
  | 29 => f 29
  | 30 => f 30
  | 31 => f 31
  | 32 => f 32
  | 33 => f 33
  | 34 => f 34
  | 35 => f 35
  | 36 => f 36
  | 37 => f 37
  | 38 => f 38
  | 39 => f 39
  | 40 => f 40
  | 41 => f 41
  | 42 => f 42
  | 43 => f 43
  | 44 => f 44
  | 45 => f 45
  | 46 => f 46
  | 47 => f 47
  | 48 => f 48
  | 49 => f 49
  | 50 => f 50
  | 51 => f 51
  | 52 => f 52
  | 53 => f 53
  | 54 => f 54
  | 55 => f 55
  | 56 => f 56
  | 57 => f 57
  | 58 => f 58
  | 59 => f 59
  | 60 => f 60
  | 61 => f 61
  | 62 => f 62
  | 63 => f 63
  | _ => 0#32

theorem pick64_eq (f : Nat → BitVec 32) (x : Nat) (h : x < 64) : pick64 f x = f x := by
  interval_cases x <;> rfl

/-- The value of `f` at `x` where `x` is below 85, zero elsewhere, by cases on `x`. -/
def pick85 (f : Nat → BitVec 32) (x : Nat) : BitVec 32 := match x with
  | 0 => f 0
  | 1 => f 1
  | 2 => f 2
  | 3 => f 3
  | 4 => f 4
  | 5 => f 5
  | 6 => f 6
  | 7 => f 7
  | 8 => f 8
  | 9 => f 9
  | 10 => f 10
  | 11 => f 11
  | 12 => f 12
  | 13 => f 13
  | 14 => f 14
  | 15 => f 15
  | 16 => f 16
  | 17 => f 17
  | 18 => f 18
  | 19 => f 19
  | 20 => f 20
  | 21 => f 21
  | 22 => f 22
  | 23 => f 23
  | 24 => f 24
  | 25 => f 25
  | 26 => f 26
  | 27 => f 27
  | 28 => f 28
  | 29 => f 29
  | 30 => f 30
  | 31 => f 31
  | 32 => f 32
  | 33 => f 33
  | 34 => f 34
  | 35 => f 35
  | 36 => f 36
  | 37 => f 37
  | 38 => f 38
  | 39 => f 39
  | 40 => f 40
  | 41 => f 41
  | 42 => f 42
  | 43 => f 43
  | 44 => f 44
  | 45 => f 45
  | 46 => f 46
  | 47 => f 47
  | 48 => f 48
  | 49 => f 49
  | 50 => f 50
  | 51 => f 51
  | 52 => f 52
  | 53 => f 53
  | 54 => f 54
  | 55 => f 55
  | 56 => f 56
  | 57 => f 57
  | 58 => f 58
  | 59 => f 59
  | 60 => f 60
  | 61 => f 61
  | 62 => f 62
  | 63 => f 63
  | 64 => f 64
  | 65 => f 65
  | 66 => f 66
  | 67 => f 67
  | 68 => f 68
  | 69 => f 69
  | 70 => f 70
  | 71 => f 71
  | 72 => f 72
  | 73 => f 73
  | 74 => f 74
  | 75 => f 75
  | 76 => f 76
  | 77 => f 77
  | 78 => f 78
  | 79 => f 79
  | 80 => f 80
  | 81 => f 81
  | 82 => f 82
  | 83 => f 83
  | 84 => f 84
  | _ => 0#32

theorem pick85_eq (f : Nat → BitVec 32) (x : Nat) (h : x < 85) : pick85 f x = f x := by
  interval_cases x <;> rfl

/-- The value of `f` at `x` where `x` is below 128, zero elsewhere, by cases on `x`. -/
def pick128 (f : Nat → BitVec 32) (x : Nat) : BitVec 32 := match x with
  | 0 => f 0
  | 1 => f 1
  | 2 => f 2
  | 3 => f 3
  | 4 => f 4
  | 5 => f 5
  | 6 => f 6
  | 7 => f 7
  | 8 => f 8
  | 9 => f 9
  | 10 => f 10
  | 11 => f 11
  | 12 => f 12
  | 13 => f 13
  | 14 => f 14
  | 15 => f 15
  | 16 => f 16
  | 17 => f 17
  | 18 => f 18
  | 19 => f 19
  | 20 => f 20
  | 21 => f 21
  | 22 => f 22
  | 23 => f 23
  | 24 => f 24
  | 25 => f 25
  | 26 => f 26
  | 27 => f 27
  | 28 => f 28
  | 29 => f 29
  | 30 => f 30
  | 31 => f 31
  | 32 => f 32
  | 33 => f 33
  | 34 => f 34
  | 35 => f 35
  | 36 => f 36
  | 37 => f 37
  | 38 => f 38
  | 39 => f 39
  | 40 => f 40
  | 41 => f 41
  | 42 => f 42
  | 43 => f 43
  | 44 => f 44
  | 45 => f 45
  | 46 => f 46
  | 47 => f 47
  | 48 => f 48
  | 49 => f 49
  | 50 => f 50
  | 51 => f 51
  | 52 => f 52
  | 53 => f 53
  | 54 => f 54
  | 55 => f 55
  | 56 => f 56
  | 57 => f 57
  | 58 => f 58
  | 59 => f 59
  | 60 => f 60
  | 61 => f 61
  | 62 => f 62
  | 63 => f 63
  | 64 => f 64
  | 65 => f 65
  | 66 => f 66
  | 67 => f 67
  | 68 => f 68
  | 69 => f 69
  | 70 => f 70
  | 71 => f 71
  | 72 => f 72
  | 73 => f 73
  | 74 => f 74
  | 75 => f 75
  | 76 => f 76
  | 77 => f 77
  | 78 => f 78
  | 79 => f 79
  | 80 => f 80
  | 81 => f 81
  | 82 => f 82
  | 83 => f 83
  | 84 => f 84
  | 85 => f 85
  | 86 => f 86
  | 87 => f 87
  | 88 => f 88
  | 89 => f 89
  | 90 => f 90
  | 91 => f 91
  | 92 => f 92
  | 93 => f 93
  | 94 => f 94
  | 95 => f 95
  | 96 => f 96
  | 97 => f 97
  | 98 => f 98
  | 99 => f 99
  | 100 => f 100
  | 101 => f 101
  | 102 => f 102
  | 103 => f 103
  | 104 => f 104
  | 105 => f 105
  | 106 => f 106
  | 107 => f 107
  | 108 => f 108
  | 109 => f 109
  | 110 => f 110
  | 111 => f 111
  | 112 => f 112
  | 113 => f 113
  | 114 => f 114
  | 115 => f 115
  | 116 => f 116
  | 117 => f 117
  | 118 => f 118
  | 119 => f 119
  | 120 => f 120
  | 121 => f 121
  | 122 => f 122
  | 123 => f 123
  | 124 => f 124
  | 125 => f 125
  | 126 => f 126
  | 127 => f 127
  | _ => 0#32

theorem pick128_eq (f : Nat → BitVec 32) (x : Nat) (h : x < 128) : pick128 f x = f x := by
  interval_cases x <;> rfl

end Cert.Tables

end
-- ==== Proof.Tables.lean ====
/- The constant matrices of the program: the entry at each row-major position. -/
module

public import proofs.«01_k».proof.KernelIdeal
public import proofs.«01_k».proof.Proof.Pick
public import Idealize.ShloMosaic.Lib.Tactic

@[expose] public section

set_option maxRecDepth 65536

noncomputable section

namespace Cert.Tables

open Cert.KernelIdeal

/-- The words of one and of zero. -/
def word (b : Bool) : BitVec 32 := cond b 0x3F800000#32 0#32

/-- The entry at position `128 q + r` of a matrix whose ones are where `b` holds. -/
def chunk (b : Nat → Bool) (q r : Nat) : BitVec 32 := word (b (Nat.add (Nat.mul q 128) r))

/-- The entry at position `16384 p + 128 q + r`. -/
def chunk3 (b : Nat → Bool) (p q r : Nat) : BitVec 32 := word (b (Nat.add (Nat.mul p 16384) (Nat.add (Nat.mul q 128) r)))

theorem chunk_eq (b : Nat → Bool) (i : Nat) : chunk b (i / 128) (i % 128) = word (b i) := by
  unfold chunk; congr 2; exact (by omega : i / 128 * 128 + i % 128 = i)

theorem chunk3_eq (b : Nat → Bool) (i : Nat) : chunk3 b (i / 16384) (i / 128 % 128) (i % 128) = word (b i) := by
  unfold chunk3; congr 2; exact (by omega : i / 16384 * 16384 + (i / 128 % 128 * 128 + i % 128) = i)

theorem beq_ne {a b : Nat} (h : ¬ a = b) : Nat.beq a b = false := by
  cases h' : Nat.beq a b with
  | false => rfl
  | true => exact absurd (Nat.eq_of_beq_eq_true h') h

/-- Where position `k` is one of the ones of the 416 × 26 matrix. -/
def b1 (k : Nat) : Bool := Nat.beq (Nat.div (Nat.div k 26) 16) (Nat.mod k 26)

theorem lit1t_eq : lit1t = fun i => pick85 (fun q => cond (Nat.beq q 84) (pick64 (chunk b1 q) (i % 128)) (pick128 (chunk b1 q) (i % 128))) (i / 128) := by sl_kernel_rfl

/-- The entry at position `i`. -/
theorem lit1_at (i : Nat) (h : i < 10816) : lit1 ⟨i, h⟩ = word (b1 i) := by
  show lit1t i = _
  rw [lit1t_eq]
  show pick85 (fun q => cond (Nat.beq q 84) (pick64 (chunk b1 q) (i % 128)) (pick128 (chunk b1 q) (i % 128))) (i / 128) = _
  rw [pick85_eq _ _ (by omega)]
  by_cases hp : i / 128 = 84
  · rw [show Nat.beq (i / 128) 84 = true from Nat.beq_eq.mpr hp, cond_true, pick64_eq _ _ (by omega)]
    exact chunk_eq b1 i
  · rw [show Nat.beq (i / 128) 84 = false from beq_ne hp, cond_false, pick128_eq _ _ (by omega)]
    exact chunk_eq b1 i

/-- Where position `k` is one of the ones of the 26 × 416 matrix. -/
def b2 (k : Nat) : Bool := Nat.beq (Nat.div k 416) (Nat.div (Nat.mod k 416) 16)

theorem lit2t_eq : lit2t = fun i => pick85 (fun q => cond (Nat.beq q 84) (pick64 (chunk b2 q) (i % 128)) (pick128 (chunk b2 q) (i % 128))) (i / 128) := by sl_kernel_rfl

/-- The entry at position `i`. -/
theorem lit2_at (i : Nat) (h : i < 10816) : lit2 ⟨i, h⟩ = word (b2 i) := by
  show lit2t i = _
  rw [lit2t_eq]
  show pick85 (fun q => cond (Nat.beq q 84) (pick64 (chunk b2 q) (i % 128)) (pick128 (chunk b2 q) (i % 128))) (i / 128) = _
  rw [pick85_eq _ _ (by omega)]
  by_cases hp : i / 128 = 84
  · rw [show Nat.beq (i / 128) 84 = true from Nat.beq_eq.mpr hp, cond_true, pick64_eq _ _ (by omega)]
    exact chunk_eq b2 i
  · rw [show Nat.beq (i / 128) 84 = false from beq_ne hp, cond_false, pick128_eq _ _ (by omega)]
    exact chunk_eq b2 i

/-- Where position `k` is one of the ones of the 416 × 16 matrix. -/
def b3 (k : Nat) : Bool := Nat.beq (Nat.mod (Nat.div k 16) 16) (Nat.mod k 16)

theorem lit3t_eq : lit3t = fun i => pick52 (fun q => pick128 (chunk b3 q) (i % 128)) (i / 128) := by sl_kernel_rfl

/-- The entry at position `i`. -/
theorem lit3_at (i : Nat) (h : i < 6656) : lit3 ⟨i, h⟩ = word (b3 i) := by
  show lit3t i = _
  rw [lit3t_eq]
  show pick52 (fun q => pick128 (chunk b3 q) (i % 128)) (i / 128) = _
  rw [pick52_eq _ _ (by omega), pick128_eq _ _ (by omega)]
  exact chunk_eq b3 i

/-- Where position `k` is one of the ones of the 16 × 416 matrix. -/
def b4 (k : Nat) : Bool := Nat.beq (Nat.div k 416) (Nat.mod (Nat.mod k 416) 16)

theorem lit4t_eq : lit4t = fun i => pick52 (fun q => pick128 (chunk b4 q) (i % 128)) (i / 128) := by sl_kernel_rfl

/-- The entry at position `i`. -/
theorem lit4_at (i : Nat) (h : i < 6656) : lit4 ⟨i, h⟩ = word (b4 i) := by
  show lit4t i = _
  rw [lit4t_eq]
  show pick52 (fun q => pick128 (chunk b4 q) (i % 128)) (i / 128) = _
  rw [pick52_eq _ _ (by omega), pick128_eq _ _ (by omega)]
  exact chunk_eq b4 i

/-- Where position `k` is one of the ones of the 26 × 26 matrix. -/
def b0 (k : Nat) : Bool := Nat.beq (Nat.div k 26) (Nat.mod k 26)

theorem lit0t_eq : lit0t = fun i => pick6 (fun q => cond (Nat.beq q 5) (pick36 (chunk b0 q) (i % 128)) (pick128 (chunk b0 q) (i % 128))) (i / 128) := by sl_kernel_rfl

/-- The entry at position `i`. -/
theorem lit0_at (i : Nat) (h : i < 676) : lit0 ⟨i, h⟩ = word (b0 i) := by
  show lit0t i = _
  rw [lit0t_eq]
  show pick6 (fun q => cond (Nat.beq q 5) (pick36 (chunk b0 q) (i % 128)) (pick128 (chunk b0 q) (i % 128))) (i / 128) = _
  rw [pick6_eq _ _ (by omega)]
  by_cases hp : i / 128 = 5
  · rw [show Nat.beq (i / 128) 5 = true from Nat.beq_eq.mpr hp, cond_true, pick36_eq _ _ (by omega)]
    exact chunk_eq b0 i
  · rw [show Nat.beq (i / 128) 5 = false from beq_ne hp, cond_false, pick128_eq _ _ (by omega)]
    exact chunk_eq b0 i

/-- Where position `k` is one of the ones of the 128 × 832 matrix. -/
def b5 (k : Nat) : Bool := and (Nat.beq (Nat.div (Nat.mod k 832) 416) (Nat.div (Nat.div k 832) 64)) (Nat.beq (Nat.div (Nat.mod (Nat.mod k 832) 416) 16) (Nat.mod (Nat.div k 832) 64))

theorem lit5t_eq : lit5t = fun i => pick7 (fun p => cond (Nat.beq p 6) (pick64 (fun q => pick128 (chunk3 b5 p q) (i % 128)) (i / 128 % 128)) (pick128 (fun q => pick128 (chunk3 b5 p q) (i % 128)) (i / 128 % 128))) (i / 16384) := by sl_kernel_rfl

/-- The entry at position `i`. -/
theorem lit5_at (i : Nat) (h : i < 106496) : lit5 ⟨i, h⟩ = word (b5 i) := by
  show lit5t i = _
  rw [lit5t_eq]
  show pick7 (fun p => cond (Nat.beq p 6) (pick64 (fun q => pick128 (chunk3 b5 p q) (i % 128)) (i / 128 % 128)) (pick128 (fun q => pick128 (chunk3 b5 p q) (i % 128)) (i / 128 % 128))) (i / 16384) = _
  rw [pick7_eq _ _ (by omega)]
  by_cases hp : i / 16384 = 6
  · rw [show Nat.beq (i / 16384) 6 = true from Nat.beq_eq.mpr hp, cond_true, pick64_eq _ _ (by omega), pick128_eq _ _ (by omega)]
    exact chunk3_eq b5 i
  · rw [show Nat.beq (i / 16384) 6 = false from beq_ne hp, cond_false, pick128_eq _ _ (by omega), pick128_eq _ _ (by omega)]
    exact chunk3_eq b5 i

/-- Where position `k` is one of the ones of the 832 × 64 matrix. -/
def b6 (k : Nat) : Bool := and (Nat.ble (Nat.succ (Nat.mod k 64)) 32) (and (Nat.beq (Nat.div (Nat.mod k 64) 16) (Nat.div (Nat.div k 64) 416)) (Nat.beq (Nat.mod (Nat.mod k 64) 16) (Nat.mod (Nat.div k 64) 16)))

theorem lit6t_eq : lit6t = fun i => pick4 (fun p => cond (Nat.beq p 3) (pick32 (fun q => pick128 (chunk3 b6 p q) (i % 128)) (i / 128 % 128)) (pick128 (fun q => pick128 (chunk3 b6 p q) (i % 128)) (i / 128 % 128))) (i / 16384) := by sl_kernel_rfl

/-- The entry at position `i`. -/
theorem lit6_at (i : Nat) (h : i < 53248) : lit6 ⟨i, h⟩ = word (b6 i) := by
  show lit6t i = _
  rw [lit6t_eq]
  show pick4 (fun p => cond (Nat.beq p 3) (pick32 (fun q => pick128 (chunk3 b6 p q) (i % 128)) (i / 128 % 128)) (pick128 (fun q => pick128 (chunk3 b6 p q) (i % 128)) (i / 128 % 128))) (i / 16384) = _
  rw [pick4_eq _ _ (by omega)]
  by_cases hp : i / 16384 = 3
  · rw [show Nat.beq (i / 16384) 3 = true from Nat.beq_eq.mpr hp, cond_true, pick32_eq _ _ (by omega), pick128_eq _ _ (by omega)]
    exact chunk3_eq b6 i
  · rw [show Nat.beq (i / 16384) 3 = false from beq_ne hp, cond_false, pick128_eq _ _ (by omega), pick128_eq _ _ (by omega)]
    exact chunk3_eq b6 i

/-- Where position `k` is one of the ones of the 128 × 64 matrix. -/
def b7 (k : Nat) : Bool := and (Nat.ble 32 (Nat.mod k 64)) (and (Nat.beq (Nat.div (Nat.sub (Nat.mod k 64) 32) 16) (Nat.div (Nat.div k 64) 64)) (Nat.ble (Nat.succ (Nat.mod (Nat.div k 64) 64)) 26))

theorem lit7t_eq : lit7t = fun i => pick64 (fun q => pick128 (chunk b7 q) (i % 128)) (i / 128) := by sl_kernel_rfl

/-- The entry at position `i`. -/
theorem lit7_at (i : Nat) (h : i < 8192) : lit7 ⟨i, h⟩ = word (b7 i) := by
  show lit7t i = _
  rw [lit7t_eq]
  show pick64 (fun q => pick128 (chunk b7 q) (i % 128)) (i / 128) = _
  rw [pick64_eq _ _ (by omega), pick128_eq _ _ (by omega)]
  exact chunk_eq b7 i

end Cert.Tables

end
-- ==== Proof.Lift.lean ====
/- Scalars: extended reals that are real numbers, the float constants of the two programs as reals, and the
   softmax in real numbers. -/
module

public import Idealize.ShloMosaic.Lib.Pointwise
public import Idealize.ShloMosaic.Lib.IdealHost
public import Idealize.ShloMosaic.Lib.Pipeline.ValueKit

@[expose] public section

set_option maxRecDepth 16384

noncomputable section

namespace Cert.Lift

open Idealize.ShloMosaic

/-- The epsilon that both programs add to a variance. -/
def eps : ℝ := (Ideal.ofBits .f32 0x3727C5AC#32 : EReal).toReal

/-- The word of the epsilon reads as the real number `eps`. -/
theorem ofBits_eps : (Ideal.ofBits .f32 0x3727C5AC#32 : EReal) = (eps : EReal) := by
  have h : (Ideal.ofBits .f32 0x3727C5AC#32 : EReal) = ((10995116 / 2 ^ 40 : ℝ) : EReal) := by
    simp [Ideal.ofBits, Ideal.ieee, -EReal.coe_mul]; norm_num
  rw [eps, h, EReal.toReal_coe]

/-- The epsilon is positive. -/
theorem eps_pos : 0 < eps := by
  have h : (Ideal.ofBits .f32 0x3727C5AC#32 : EReal) = ((10995116 / 2 ^ 40 : ℝ) : EReal) := by
    simp [Ideal.ofBits, Ideal.ieee, -EReal.coe_mul]; norm_num
  rw [eps, h, EReal.toReal_coe]; norm_num

/-- The word of 26. -/
theorem ofBits_26 : (Ideal.ofBits .f32 0x41D00000#32 : EReal) = ((26 : ℝ) : EReal) := by
  simp [Ideal.ofBits, Ideal.ieee, -EReal.coe_mul]; norm_num

/-- The large negative number that is added where a link is masked. -/
def big : ℝ := (Ideal.ofBits .f32 0xCE6E6B28#32 : EReal).toReal

/-- The word of the large negative number reads as the real number `big`. -/
theorem ofBits_big : (Ideal.ofBits .f32 0xCE6E6B28#32 : EReal) = (big : EReal) := by
  have h : (Ideal.ofBits .f32 0xCE6E6B28#32 : EReal) = ((-1000000000 : ℝ) : EReal) := by
    simp [Ideal.ofBits, Ideal.ieee, -EReal.coe_mul]; norm_num
  rw [big, h, EReal.toReal_coe]

/-- The word of minus infinity is the least extended real. -/
theorem ofBits_bot : (Ideal.ofBits .f32 0xFF800000#32 : EReal) = ⊥ := by
  simp [Ideal.ofBits, Ideal.ieee]

/-- A finite sum of reals, taken in the extended reals, is the real sum. -/
theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The maximum of two reals, taken in the extended reals. -/
theorem max_coe (a b : ℝ) : max (a : EReal) (b : EReal) = ((max a b : ℝ) : EReal) :=
  (EReal.coe_strictMono.monotone.map_max).symm

/-- The quotient of reals with a nonzero divisor. -/
theorem div_coe {y : ℝ} (h : y ≠ 0) (x : ℝ) : Ideal.div (x : EReal) (y : EReal) = ((x / y : ℝ) : EReal) := by
  rw [Ideal.div_coe h, ← EReal.coe_mul, mul_one_div]

/-- The reciprocal square root of a positive real. -/
theorem rsqrt_coe {y : ℝ} (h : 0 < y) : Ideal.rsqrt (y : EReal) = (((Real.sqrt y)⁻¹ : ℝ) : EReal) := by
  rw [Ideal.rsqrt_coe, if_neg (not_lt.2 h.le), if_neg h.ne']

/-- The square root of a positive real. -/
theorem sqrt_coe {y : ℝ} (h : 0 < y) : Ideal.sqrt (y : EReal) = ((Real.sqrt y : ℝ) : EReal) := by
  rw [Ideal.sqrt_coe, if_neg (not_lt.2 h.le)]

/-- The running maximum of finitely many reals, at least one, from minus infinity is a real. -/
theorem fold_max_coe {n : ℕ} [NeZero n] (f : Fin n → ℝ) :
    ∃ M : ℝ, (Finset.univ.fold max (⊥ : EReal) fun k => ((f k : ℝ) : EReal)) = (M : EReal) := by
  classical
  have key : ∀ s : Finset (Fin n), (s = ∅ ∧ (s.fold max (⊥ : EReal) fun k => ((f k : ℝ) : EReal)) = ⊥)
      ∨ ∃ M : ℝ, (s.fold max (⊥ : EReal) fun k => ((f k : ℝ) : EReal)) = (M : EReal) := by
    intro s
    induction s using Finset.induction_on with
    | empty => exact Or.inl ⟨rfl, Finset.fold_empty⟩
    | insert a s ha ih =>
      right
      rcases ih with ⟨_, h⟩ | ⟨M, h⟩
      · exact ⟨f a, by rw [Finset.fold_insert ha, h]; exact max_bot_right _⟩
      · exact ⟨max (f a) M, by rw [Finset.fold_insert ha, h, max_coe]⟩
  rcases key Finset.univ with ⟨h, _⟩ | h
  · exact absurd h (Finset.univ_nonempty (α := Fin n)).ne_empty
  · exact h

/-- A softmax weight does not depend on the number subtracted from the scores. -/
theorem softmax_shift {n : ℕ} (f : Fin n → ℝ) (M : ℝ) (k : Fin n) :
    Real.exp (f k - M) / ∑ l, Real.exp (f l - M) = Real.exp (f k) / ∑ l, Real.exp (f l) := by
  simp only [Real.exp_sub, ← Finset.sum_div]
  rw [div_div_div_cancel_right₀ (Real.exp_pos M).ne']

/-- A sum of exponentials over a nonempty range is not zero. -/
theorem sum_exp_ne {n : ℕ} [NeZero n] (f : Fin n → ℝ) : ∑ l, Real.exp (f l) ≠ 0 :=
  (Finset.sum_pos (fun l _ => Real.exp_pos _) Finset.univ_nonempty).ne'

/-- An extended real whose absolute value is below plus infinity is a real. -/
theorem exists_real {x : EReal} (h1 : x ≠ ⊥) (h2 : x ≠ ⊤) : ((x.toReal : ℝ) : EReal) = x := EReal.coe_toReal h2 h1

/-- A choice between one and zero is a real. -/
theorem ite_coe (c : Prop) [Decidable c] : (if c then (1 : EReal) else 0) = ((if c then 1 else 0 : ℝ) : EReal) := by
  split <;> simp

end Cert.Lift

end
-- ==== Proof.Spec.lean ====
/- The layer in real numbers: one graph's adjacency, its softmax, the folded affine map of a batch row, and the
   equation between the folded map (a matrix and an offset) and the layer computed step by step. -/
module

public import proofs.«01_k».proof.Proof.Lift

@[expose] public section

set_option maxRecDepth 16384

noncomputable section

namespace Cert.Spec

open Cert.Lift

/-- The field of a flat column: 16 consecutive columns make a field. -/
def fld (c : Fin 416) : Fin 26 := ⟨c.val / 16, by omega⟩
/-- The place of a flat column inside its field. -/
def dim (c : Fin 416) : Fin 16 := ⟨c.val % 16, by omega⟩
/-- The flat column of a field and a place. -/
def col (n : Fin 26) (d : Fin 16) : Fin 416 := ⟨n.val * 16 + d.val, by omega⟩
/-- The first 16 of 32 places. -/
def lo (d : Fin 16) : Fin 32 := ⟨d.val, by omega⟩
/-- The last 16 of 32 places. -/
def hi (d : Fin 16) : Fin 32 := ⟨16 + d.val, by omega⟩

theorem fld_col (n : Fin 26) (d : Fin 16) : fld (col n d) = n := by ext; simp only [fld, col]; omega
theorem dim_col (n : Fin 26) (d : Fin 16) : dim (col n d) = d := by ext; simp only [dim, col]; omega
theorem col_fld (c : Fin 416) : col (fld c) (dim c) = c := by ext; simp only [fld, dim, col]; omega

/-- Fields and places number the flat columns. -/
def colEquiv : Fin 26 × Fin 16 ≃ Fin 416 where
  toFun p := col p.1 p.2
  invFun c := (fld c, dim c)
  left_inv p := by
    show (fld (col p.1 p.2), dim (col p.1 p.2)) = p
    rw [fld_col, dim_col]
  right_inv c := col_fld c

/-- A sum over flat columns is a sum over fields and places. -/
theorem sum_col (f : Fin 416 → ℝ) : ∑ c, f c = ∑ n, ∑ d, f (col n d) := by
  rw [← Equiv.sum_comp colEquiv f, Fintype.sum_prod_type]; rfl

/-- A sum over 32 places is the sum over the first 16 and over the last 16. -/
theorem sum_lo_hi (f : Fin 32 → ℝ) : ∑ k, f k = ∑ d, f (lo d) + ∑ d, f (hi d) :=
  Fin.sum_univ_add (a := 16) (b := 16) f

/-- The parameters of one graph, as reals. -/
structure Par where
  msk : Fin 3 → Fin 26 → Fin 26 → ℝ
  lw : Fin 26 → ℝ
  lb : Fin 26 → ℝ
  bw : Fin 26 → Fin 32 → ℝ
  bb : Fin 26 → Fin 32 → ℝ
  rm : Fin 26 → Fin 32 → ℝ
  rv : Fin 26 → Fin 32 → ℝ
  rv_pos : ∀ n k, 0 < rv n k + eps
  W : Fin 32 → Fin 16 → ℝ
  gb : Fin 26 → Fin 16 → ℝ
  gw : Fin 416 → Fin 26 → ℝ
  gg : Fin 26 → ℝ

variable (p : Par)

/-- The adjacency: the product of the three masks, negative values cut off. -/
def adj (m n : Fin 26) : ℝ := max (p.msk 0 m n * p.msk 1 m n * p.msk 2 m n) 0
/-- One where there is a link, zero elsewhere. -/
def link (m n : Fin 26) : ℝ := if adj p m n = 0 then 0 else 1
/-- The mean of a column of the adjacency. -/
def mu (n : Fin 26) : ℝ := (∑ m, adj p m n) / 26
/-- The variance of a column of the adjacency. -/
def var (n : Fin 26) : ℝ := (∑ m, (adj p m n - mu p n) * (adj p m n - mu p n)) / 26
/-- The score of a link: the normalised adjacency, the mask's large negative number, and the self link. -/
def score (m n : Fin 26) : ℝ :=
  (adj p m n - mu p n) * (Real.sqrt (var p n + eps))⁻¹ * p.lw m + p.lb m + (1 - link p m n) * big
    + (if m = n then 1 else 0)
/-- The weight of a link: the softmax over sources, masked again. -/
def wgt (m n : Fin 26) : ℝ := Real.exp (score p m n) / (∑ l, Real.exp (score p l n)) * link p m n
/-- The scale of the batch normalisation. -/
def s (n : Fin 26) (k : Fin 32) : ℝ := p.bw n k * (Real.sqrt (p.rv n k + eps))⁻¹
/-- The shift of the batch normalisation. -/
def sh (n : Fin 26) (k : Fin 32) : ℝ := p.bb n k - p.rm n k * s p n k
/-- The folded matrix. -/
def Ct (r c : Fin 416) : ℝ :=
  wgt p (fld r) (fld c) * (s p (fld c) (hi (dim r)) * p.W (hi (dim r)) (dim c))
    + (if fld r = fld c then 1 else 0) * (s p (fld c) (lo (dim r)) * p.W (lo (dim r)) (dim c))
/-- The folded offset. -/
def ev (c : Fin 416) : ℝ :=
  p.gb (fld c) (dim c) + (∑ d, sh p (fld c) (lo d) * p.W (lo d) (dim c))
    + ∑ d, sh p (fld c) (hi d) * p.W (hi d) (dim c)
/-- The gate's columns of the folded matrix. -/
def Cg (r : Fin 416) (n : Fin 26) : ℝ := ∑ c, Ct p r c * p.gw c n
/-- The gate's part of the folded offset. -/
def eg (n : Fin 26) : ℝ := (∑ c, ev p c * p.gw c n) + p.gg n

/-- The variance is the mean square less the square of the mean. -/
theorem var_eq (n : Fin 26) : (∑ m, adj p m n * adj p m n) / 26 - mu p n * mu p n = var p n := by
  have h : ∑ m, adj p m n = 26 * mu p n := by simp only [mu]; ring
  have e : ∀ m, (adj p m n - mu p n) * (adj p m n - mu p n)
      = adj p m n * adj p m n - 2 * mu p n * adj p m n + mu p n * mu p n := fun m => by ring
  simp only [var, e, Finset.sum_add_distrib, Finset.sum_sub_distrib, ← Finset.mul_sum, h, Finset.sum_const,
    Finset.card_univ, Fintype.card_fin, nsmul_eq_mul]
  push_cast; ring

/-- The variance plus the epsilon is positive. -/
theorem var_pos (n : Fin 26) : 0 < var p n + eps :=
  add_pos_of_nonneg_of_pos (div_nonneg (Finset.sum_nonneg fun m _ => mul_self_nonneg _) (by norm_num)) eps_pos

/-! One row `x` of the batch, step by step. -/

variable (x : Fin 26 → Fin 16 → ℝ)

/-- The message from the neighbours. -/
def nei (n : Fin 26) (d : Fin 16) : ℝ := ∑ m, x m d * wgt p m n
/-- A field's own values followed by the message. -/
def cat (n : Fin 26) (k : Fin 32) : ℝ :=
  if h : k.val < 16 then x n ⟨k.val, h⟩ else nei p x n ⟨k.val - 16, by omega⟩
/-- The batch normalisation. -/
def norm (n : Fin 26) (k : Fin 32) : ℝ :=
  (cat p x n k - p.rm n k) / Real.sqrt (p.rv n k + eps) * p.bw n k + p.bb n k
/-- The linear layer. -/
def hid (n : Fin 26) (d : Fin 16) : ℝ := (∑ k, norm p x n k * p.W k d) + p.gb n d
/-- The gate's score of a field. -/
def gate (n : Fin 26) : ℝ := (∑ c, hid p x (fld c) (dim c) * p.gw c n) + p.gg n
/-- The result: the fields' values weighted by the softmax of the gate. -/
def res (d : Fin 16) : ℝ := ∑ n, hid p x n d * (Real.exp (gate p x n) / ∑ l, Real.exp (gate p x l))

theorem cat_lo (n : Fin 26) (d : Fin 16) : cat p x n (lo d) = x n d := by
  unfold cat; rw [dif_pos (show (lo d).val < 16 from d.isLt)]; rfl
theorem cat_hi (n : Fin 26) (d : Fin 16) : cat p x n (hi d) = nei p x n d := by
  unfold cat; rw [dif_neg (show ¬ (hi d).val < 16 by simp only [hi]; omega)]
  congr 1; ext; simp only [hi]; omega

/-- The batch normalisation is the scale times the value plus the shift. -/
theorem norm_eq (n : Fin 26) (k : Fin 32) : norm p x n k = cat p x n k * s p n k + sh p n k := by
  simp only [norm, s, sh, div_eq_mul_inv]; ring

/-- The folded matrix and offset applied to a row give the linear layer. -/
theorem fold_hid (c : Fin 416) : (∑ r, x (fld r) (dim r) * Ct p r c) + ev p c = hid p x (fld c) (dim c) := by
  rw [sum_col, hid, sum_lo_hi]
  simp only [norm_eq, cat_lo, cat_hi, fld_col, dim_col, Ct, ev, nei, add_mul, mul_add, Finset.sum_add_distrib]
  have h1 : ∑ n, ∑ d, x n d * ((if n = fld c then 1 else 0) * (s p (fld c) (lo d) * p.W (lo d) (dim c)))
      = ∑ d, x (fld c) d * s p (fld c) (lo d) * p.W (lo d) (dim c) := by
    rw [Finset.sum_comm]
    refine Finset.sum_congr rfl fun d _ => ?_
    rw [Finset.sum_eq_single (fld c) (fun b _ hb => by rw [if_neg hb]; ring) (fun h => absurd (Finset.mem_univ _) h),
      if_pos rfl]; ring
  have h2 : ∑ n, ∑ d, x n d * (wgt p n (fld c) * (s p (fld c) (hi d) * p.W (hi d) (dim c)))
      = ∑ d, (∑ m, x m d * wgt p m (fld c)) * s p (fld c) (hi d) * p.W (hi d) (dim c) := by
    rw [Finset.sum_comm]
    refine Finset.sum_congr rfl fun d _ => ?_
    rw [Finset.sum_mul, Finset.sum_mul]
    exact Finset.sum_congr rfl fun m _ => by ring
  rw [h1, h2]; ring

/-- The gate's folded columns and offset give the gate's score. -/
theorem fold_gate (n : Fin 26) : (∑ r, x (fld r) (dim r) * Cg p r n) + eg p n = gate p x n := by
  simp only [gate, ← fold_hid, Cg, eg, Finset.mul_sum, add_mul, Finset.sum_mul, Finset.sum_add_distrib]
  rw [Finset.sum_comm, ← add_assoc]
  congr 2
  exact Finset.sum_congr rfl fun c _ => Finset.sum_congr rfl fun r _ => by ring

/-- The weighted sum divided by the sum of weights is the result. -/
theorem fold_res (d : Fin 16) :
    (∑ n, hid p x n d * Real.exp (gate p x n)) / (∑ n, Real.exp (gate p x n)) = res p x d := by
  rw [res, Finset.sum_div]
  exact Finset.sum_congr rfl fun n _ => by rw [mul_div_assoc]

end Cert.Spec

end
-- ==== Proof.Batch.lean ====
/- What a grid point computes from its block of rows and the folded matrix: every entry of the output block is the
   specification's result of its row and graph. -/
module

public import proofs.«01_k».proof.Proof.Gen.KernelIdeal.Skeleton
public import proofs.«01_k».proof.Proof.Spec

@[expose] public section

set_option maxRecDepth 16384

noncomputable section

namespace Cert.Batch

open Idealize.ShloMosaic Idealize.ShloMosaic.TcCoe Idealize.SL.Sem
open Cert.KernelIdeal Cert.KernelIdeal.Gen
open Cert.Lift Cert.Spec

variable (p : Fin 2 → Par)

/-- The folded matrices of the two graphs side by side, then the two gates' columns, padded with zeros. -/
def Cmat (r : Fin 416) (c : Fin 960) : ℝ :=
  if h : c.val < 832 then Ct (p ⟨c.val / 416, by omega⟩) r ⟨c.val % 416, by omega⟩
  else if h' : (c.val - 832) % 64 < 26 then Cg (p ⟨(c.val - 832) / 64, by omega⟩) r ⟨(c.val - 832) % 64, h'⟩ else 0

/-- The folded offsets laid out in the same way. -/
def evec (c : Fin 960) : ℝ :=
  if h : c.val < 832 then ev (p ⟨c.val / 416, by omega⟩) ⟨c.val % 416, by omega⟩
  else if h' : (c.val - 832) % 64 < 26 then eg (p ⟨(c.val - 832) / 64, by omega⟩) ⟨(c.val - 832) % 64, h'⟩ else 0

/-- A row times the matrix plus the offset. -/
def Y (x : Fin 26 → Fin 16 → ℝ) (c : Fin 960) : ℝ := (∑ r, x (fld r) (dim r) * Cmat p r c) + evec p c

/-- The first columns are the linear layer. -/
theorem Y_hid (x : Fin 26 → Fin 16 → ℝ) (t : Fin 2) (c : Fin 416) (k : Fin 960) (hk : k.val = t.val * 416 + c.val) :
    Y p x k = hid (p t) x (fld c) (dim c) := by
  have h : k.val < 832 := by omega
  have ht : (⟨k.val / 416, by omega⟩ : Fin 2) = t := by ext; simp only; omega
  have hc : (⟨k.val % 416, by omega⟩ : Fin 416) = c := by ext; simp only; omega
  simp only [Y, Cmat, evec, dif_pos h, ht, hc]
  exact fold_hid (p t) x c

/-- The last columns are the gates. -/
theorem Y_gate (x : Fin 26 → Fin 16 → ℝ) (t : Fin 2) (n : Fin 26) (k : Fin 960) (hk : k.val = 832 + t.val * 64 + n.val) :
    Y p x k = gate (p t) x n := by
  have h : ¬ k.val < 832 := by omega
  have h' : (k.val - 832) % 64 < 26 := by omega
  have ht : (⟨(k.val - 832) / 64, by omega⟩ : Fin 2) = t := by ext; simp only; omega
  have hc : (⟨(k.val - 832) % 64, h'⟩ : Fin 26) = n := by ext; simp only; omega
  simp only [Y, Cmat, evec, dif_neg h, dif_pos h', ht, hc]
  exact fold_gate (p t) x n

/-- Column `832 + g`. -/
def tail (g : Fin 128) : Fin 960 := ⟨832 + g.val, by omega⟩
/-- Column `c` of the first 832. -/
def head (c : Fin 832) : Fin 960 := ⟨c.val, by omega⟩
/-- Position `64 t + n` among the gates' columns. -/
def gcol (t : Fin 2) (n : Fin 26) : Fin 128 := ⟨t.val * 64 + n.val, by omega⟩
/-- Column `416 t + c`. -/
def hcol (t : Fin 2) (c : Fin 416) : Fin 832 := ⟨t.val * 416 + c.val, by omega⟩

theorem sum_832 (f : Fin 832 → ℝ) : ∑ c, f c = ∑ t, ∑ c, f (hcol t c) := by
  rw [← (finProdFinEquiv (m := 2) (n := 416)).sum_comp f, Fintype.sum_prod_type]
  refine Finset.sum_congr rfl fun t _ => Finset.sum_congr rfl fun c _ => congrArg f ?_
  ext; simp [hcol, finProdFinEquiv]; ring

theorem sum_128 (f : Fin 128 → ℝ) (h : ∀ g : Fin 128, ¬ g.val % 64 < 26 → f g = 0) : ∑ g, f g = ∑ t, ∑ n, f (gcol t n) := by
  rw [← (finProdFinEquiv (m := 2) (n := 64)).sum_comp f, Fintype.sum_prod_type]
  refine Finset.sum_congr rfl fun t _ => ?_
  rw [show (∑ u : Fin 64, f (finProdFinEquiv (t, u))) = ∑ u : Fin (26 + 38), f (finProdFinEquiv (t, (u : Fin 64))) from rfl, Fin.sum_univ_add]
  rw [Finset.sum_eq_zero (s := Finset.univ) (f := fun i : Fin 38 => f (finProdFinEquiv (t, Fin.natAdd 26 i)))
    (fun i _ => h _ (by simp [finProdFinEquiv]; omega)), add_zero]
  refine Finset.sum_congr rfl fun c _ => congrArg f ?_
  ext; simp [gcol, finProdFinEquiv]; ring

/-- The weight of a column: the exponential of its field's gate. -/
theorem wex_eq (x : Fin 26 → Fin 16 → ℝ) (t : Fin 2) (c : Fin 416) :
    ∑ g, Real.exp (Y p x (tail g)) * (if (hcol t c).val / 416 = g.val / 64 ∧ (hcol t c).val % 416 / 16 = g.val % 64 then 1 else 0)
      = Real.exp (gate (p t) x (fld c)) := by
  rw [Finset.sum_eq_single (gcol t (fld c))]
  · rw [if_pos, mul_one, Y_gate p x t (fld c)]
    · simp only [tail, gcol]; omega
    · simp only [hcol, gcol, fld]; omega
  · intro g _ hg
    rw [if_neg, mul_zero]
    intro hh; apply hg; ext; simp only [hcol, gcol, fld] at hh ⊢; omega
  · intro h; exact absurd (Finset.mem_univ _) h

/-- The weighted sum over the fields. -/
theorem num_eq (x : Fin 26 → Fin 16 → ℝ) (t : Fin 2) (d : Fin 16) (o : Fin 64) (ho : o.val = t.val * 16 + d.val) :
    (∑ c : Fin 832, Y p x (head c) * (∑ g, Real.exp (Y p x (tail g)) * (if c.val / 416 = g.val / 64 ∧ c.val % 416 / 16 = g.val % 64 then 1 else 0))
        * (if o.val < 32 ∧ o.val / 16 = c.val / 416 ∧ o.val % 16 = c.val % 16 then 1 else 0))
      + ∑ g : Fin 128, Real.exp (Y p x (tail g)) * (if 32 ≤ o.val ∧ (o.val - 32) / 16 = g.val / 64 ∧ g.val % 64 < 26 then 1 else 0)
      = ∑ n, hid (p t) x n d * Real.exp (gate (p t) x n) := by
  have h2 : ∀ g : Fin 128, Real.exp (Y p x (tail g)) * (if 32 ≤ o.val ∧ (o.val - 32) / 16 = g.val / 64 ∧ g.val % 64 < 26 then 1 else 0) = 0 :=
    fun g => by rw [if_neg (by omega), mul_zero]
  simp only [h2, Finset.sum_const_zero, add_zero]
  rw [sum_832, Finset.sum_eq_single t]
  · simp only [wex_eq]
    rw [sum_col]
    refine Finset.sum_congr rfl fun n _ => ?_
    rw [Finset.sum_eq_single d]
    · rw [if_pos, mul_one, Y_hid p x t (col n d) _ rfl, fld_col, dim_col]
      simp only [hcol, col]; omega
    · intro b _ hb
      rw [if_neg, mul_zero]
      intro hh; apply hb; ext; simp only [hcol, col] at hh ⊢; omega
    · intro h; exact absurd (Finset.mem_univ _) h
  · intro b _ hb
    refine Finset.sum_eq_zero fun c _ => ?_
    rw [if_neg, mul_zero]
    intro hh; apply hb; ext; simp only [hcol] at hh ⊢; omega
  · intro h; exact absurd (Finset.mem_univ _) h

/-- The sum of the weights. -/
theorem den_eq (x : Fin 26 → Fin 16 → ℝ) (t : Fin 2) (d : Fin 16) (o : Fin 64) (ho : o.val = 32 + (t.val * 16 + d.val)) :
    (∑ c : Fin 832, Y p x (head c) * (∑ g, Real.exp (Y p x (tail g)) * (if c.val / 416 = g.val / 64 ∧ c.val % 416 / 16 = g.val % 64 then 1 else 0))
        * (if o.val < 32 ∧ o.val / 16 = c.val / 416 ∧ o.val % 16 = c.val % 16 then 1 else 0))
      + ∑ g : Fin 128, Real.exp (Y p x (tail g)) * (if 32 ≤ o.val ∧ (o.val - 32) / 16 = g.val / 64 ∧ g.val % 64 < 26 then 1 else 0)
      = ∑ n, Real.exp (gate (p t) x n) := by
  rw [Finset.sum_eq_zero (fun c _ => by rw [if_neg (by omega), mul_zero]), zero_add,
    sum_128 _ (fun g hg => by rw [if_neg (by omega), mul_zero]), Finset.sum_eq_single t]
  · refine Finset.sum_congr rfl fun n _ => ?_
    rw [if_pos, mul_one, Y_gate p x t n]
    · simp only [tail, gcol]; omega
    · simp only [gcol]; omega
  · intro b _ hb
    refine Finset.sum_eq_zero fun n _ => ?_
    rw [if_neg, mul_zero]
    intro hh; apply hb; ext; simp only [gcol] at hh ⊢; omega
  · intro h; exact absurd (Finset.mem_univ _) h

/-- Where the weights are spread over the columns. -/
def TT (g : Fin 128) (c : Fin 832) : ℝ := if c.val / 416 = g.val / 64 ∧ c.val % 416 / 16 = g.val % 64 then 1 else 0
/-- Where the weighted columns are summed. -/
def SS (c : Fin 832) (o : Fin 64) : ℝ := if o.val < 32 ∧ o.val / 16 = c.val / 416 ∧ o.val % 16 = c.val % 16 then 1 else 0
/-- Where the weights are summed. -/
def DD (g : Fin 128) (o : Fin 64) : ℝ := if 32 ≤ o.val ∧ (o.val - 32) / 16 = g.val / 64 ∧ g.val % 64 < 26 then 1 else 0

/-- The output block. -/
theorem out_at (x : Vec Ideal S4096x416 .bf16) (C : Vec Ideal S416x960 .bf16) (e : Vec Ideal S1x960 .f32)
    (PTT : Vec Ideal S128x832 .f32) (P2S : Vec Ideal S832x64 .f32) (Pden : Vec Ideal S128x64 .f32)
    (X : Fin 4096 → Fin 26 → Fin 16 → ℝ)
    (hx : ∀ b r, x (ix2 b r) = ((X b (fld r) (dim r) : ℝ) : EReal))
    (hC : ∀ r c, C (ix2 r c) = ((Cmat p r c : ℝ) : EReal)) (he : ∀ c, e (ix2 0 c) = ((evec p c : ℝ) : EReal))
    (hT : ∀ g c, PTT (ix2 g c) = ((TT g c : ℝ) : EReal))
    (hS : ∀ c o, P2S (ix2 c o) = ((SS c o : ℝ) : EReal))
    (hD : ∀ g o, Pden (ix2 g o) = ((DD g o : ℝ) : EReal))
    (b : Fin 4096) (t : Fin 2) (d : Fin 16) (o : Fin 32) (ho : o.val = t.val * 16 + d.val) :
    k0_pay6 x C e PTT P2S Pden (ix2 b o) = ((res (p t) (X b) d : ℝ) : EReal) := by
  pointwise [k0_pay6, hx, hC, he, hT, hS, hD]
  simp only [← EReal.coe_mul, sum_coe, ← EReal.coe_add, Ideal.exp_coe]
  rw [← fold_res, ← den_eq p (X b) t d ⟨32 + o.val, by omega⟩ (by simp only; omega), ← num_eq p (X b) t d ⟨o.val, by omega⟩ ho]
  refine div_coe ?_ _
  have h := sum_exp_ne (gate (p t) (X b))
  rw [← den_eq p (X b) t d ⟨32 + o.val, by omega⟩ (by simp only; omega)] at h
  exact h

end Cert.Batch

end
-- ==== Proof.Consts.lean ====
/- The constant matrices of the program, entry by entry at a row and a column. -/
module

public import proofs.«01_k».proof.Proof.Tables
public import proofs.«01_k».proof.Proof.Batch

@[expose] public section

set_option maxRecDepth 16384

noncomputable section

namespace Cert.Tables

open Idealize.ShloMosaic Idealize.ShloMosaic.TcCoe
open Cert.KernelIdeal Cert.Lift Cert.Spec

/-- The word of one is one. -/
theorem one_word : (FloatOps.ofBits (F := Ideal) .f32 0x3F800000#32) = 1 := by
  show (Ideal.ofBits .f32 0x3F800000#32 : EReal) = 1
  simp [Ideal.ofBits, Ideal.ieee, -EReal.coe_mul]; norm_num

/-- The word of zero is zero. -/
theorem zero_word : (FloatOps.ofBits (F := Ideal) .f32 0#32) = 0 := by
  show (Ideal.ofBits .f32 0#32 : EReal) = 0
  simp [Ideal.ofBits, Ideal.ieee]

/-- A zero-one entry as a number. -/
theorem word_bits (b : Bool) (c : Prop) [Decidable c] (h : b = true ↔ c) :
    (FloatOps.ofBits (F := Ideal) .f32 (word b)) = if c then (1 : EReal) else 0 := by
  cases b with
  | true => rw [if_pos (h.1 rfl)]; exact one_word
  | false => rw [if_neg (fun e => Bool.false_ne_true (h.2 e))]; exact zero_word

/-- The ones of constant 1 by position. -/
theorem b1_iff (k : Nat) : b1 k = true ↔ k / 26 / 16 = k % 26 := by
  unfold b1; rw [Nat.beq_eq]; exact Iff.rfl

/-- Constant 1 at a row and a column. -/
theorem cst1_at (r : Fin 416) (n : Fin 26) :
    (FloatOps.ofBits (F := Ideal) .f32 (lit1 (S416x26.rowMajor (ix2 r n)))) = if fld r = n then (1 : EReal) else 0 := by
  have hv : (S416x26.rowMajor (ix2 r n)).val = r.val * 26 + n.val := Shape.rowMajor_val_two _
  have hl : r.val * 26 + n.val < 10816 := by omega
  have e : lit1 (S416x26.rowMajor (ix2 r n)) = lit1 ⟨r.val * 26 + n.val, hl⟩ := congrArg lit1 (Fin.ext hv)
  rw [e, lit1_at]
  refine word_bits _ _ ((b1_iff _).trans ?_)
  have h1 : (r.val * 26 + n.val) / 26 = r.val := by omega
  have h2 : (r.val * 26 + n.val) % 26 = n.val := by omega
  rw [h1, h2]
  simp only [Fin.ext_iff, fld]

/-- The ones of constant 2 by position. -/
theorem b2_iff (k : Nat) : b2 k = true ↔ k / 416 = k % 416 / 16 := by
  unfold b2; rw [Nat.beq_eq]; exact Iff.rfl

/-- Constant 2 at a row and a column. -/
theorem cst2_at (r : Fin 26) (n : Fin 416) :
    (FloatOps.ofBits (F := Ideal) .f32 (lit2 (S26x416.rowMajor (ix2 r n)))) = if r = fld n then (1 : EReal) else 0 := by
  have hv : (S26x416.rowMajor (ix2 r n)).val = r.val * 416 + n.val := Shape.rowMajor_val_two _
  have hl : r.val * 416 + n.val < 10816 := by omega
  have e : lit2 (S26x416.rowMajor (ix2 r n)) = lit2 ⟨r.val * 416 + n.val, hl⟩ := congrArg lit2 (Fin.ext hv)
  rw [e, lit2_at]
  refine word_bits _ _ ((b2_iff _).trans ?_)
  have h1 : (r.val * 416 + n.val) / 416 = r.val := by omega
  have h2 : (r.val * 416 + n.val) % 416 = n.val := by omega
  rw [h1, h2]
  simp only [Fin.ext_iff, fld]

/-- The ones of constant 3 by position. -/
theorem b3_iff (k : Nat) : b3 k = true ↔ k / 16 % 16 = k % 16 := by
  unfold b3; rw [Nat.beq_eq]; exact Iff.rfl

/-- Constant 3 at a row and a column. -/
theorem cst3_at (r : Fin 416) (n : Fin 16) :
    (FloatOps.ofBits (F := Ideal) .f32 (lit3 (S416x16.rowMajor (ix2 r n)))) = if dim r = n then (1 : EReal) else 0 := by
  have hv : (S416x16.rowMajor (ix2 r n)).val = r.val * 16 + n.val := Shape.rowMajor_val_two _
  have hl : r.val * 16 + n.val < 6656 := by omega
  have e : lit3 (S416x16.rowMajor (ix2 r n)) = lit3 ⟨r.val * 16 + n.val, hl⟩ := congrArg lit3 (Fin.ext hv)
  rw [e, lit3_at]
  refine word_bits _ _ ((b3_iff _).trans ?_)
  have h1 : (r.val * 16 + n.val) / 16 = r.val := by omega
  have h2 : (r.val * 16 + n.val) % 16 = n.val := by omega
  rw [h1, h2]
  simp only [Fin.ext_iff, dim]

/-- The ones of constant 4 by position. -/
theorem b4_iff (k : Nat) : b4 k = true ↔ k / 416 = k % 416 % 16 := by
  unfold b4; rw [Nat.beq_eq]; exact Iff.rfl

/-- Constant 4 at a row and a column. -/
theorem cst4_at (r : Fin 16) (n : Fin 416) :
    (FloatOps.ofBits (F := Ideal) .f32 (lit4 (S16x416.rowMajor (ix2 r n)))) = if r = dim n then (1 : EReal) else 0 := by
  have hv : (S16x416.rowMajor (ix2 r n)).val = r.val * 416 + n.val := Shape.rowMajor_val_two _
  have hl : r.val * 416 + n.val < 6656 := by omega
  have e : lit4 (S16x416.rowMajor (ix2 r n)) = lit4 ⟨r.val * 416 + n.val, hl⟩ := congrArg lit4 (Fin.ext hv)
  rw [e, lit4_at]
  refine word_bits _ _ ((b4_iff _).trans ?_)
  have h1 : (r.val * 416 + n.val) / 416 = r.val := by omega
  have h2 : (r.val * 416 + n.val) % 416 = n.val := by omega
  rw [h1, h2]
  simp only [Fin.ext_iff, dim]

/-- The ones of constant 0 by position. -/
theorem b0_iff (k : Nat) : b0 k = true ↔ k / 26 = k % 26 := by
  unfold b0; rw [Nat.beq_eq]; exact Iff.rfl

/-- Constant 0 at a row and a column. -/
theorem cst0_at (r : Fin 26) (n : Fin 26) :
    (FloatOps.ofBits (F := Ideal) .f32 (lit0 (S26x26.rowMajor (ix2 r n)))) = if r = n then (1 : EReal) else 0 := by
  have hv : (S26x26.rowMajor (ix2 r n)).val = r.val * 26 + n.val := Shape.rowMajor_val_two _
  have hl : r.val * 26 + n.val < 676 := by omega
  have e : lit0 (S26x26.rowMajor (ix2 r n)) = lit0 ⟨r.val * 26 + n.val, hl⟩ := congrArg lit0 (Fin.ext hv)
  rw [e, lit0_at]
  refine word_bits _ _ ((b0_iff _).trans ?_)
  have h1 : (r.val * 26 + n.val) / 26 = r.val := by omega
  have h2 : (r.val * 26 + n.val) % 26 = n.val := by omega
  rw [h1, h2]
  simp only [Fin.ext_iff]

/-- The ones of constant 5 by position. -/
theorem b5_iff (k : Nat) : b5 k = true ↔ k % 832 / 416 = k / 832 / 64 ∧ k % 832 % 416 / 16 = k / 832 % 64 := by
  unfold b5; rw [Bool.and_eq_true, Nat.beq_eq, Nat.beq_eq]; exact Iff.rfl

/-- Constant 5 at a row and a column. -/
theorem cst5_at (r : Fin 128) (n : Fin 832) :
    (FloatOps.ofBits (F := Ideal) .f32 (lit5 (S128x832.rowMajor (ix2 r n)))) = ((Batch.TT r n : ℝ) : EReal) := by
  have hv : (S128x832.rowMajor (ix2 r n)).val = r.val * 832 + n.val := Shape.rowMajor_val_two _
  have hl : r.val * 832 + n.val < 106496 := by omega
  have e : lit5 (S128x832.rowMajor (ix2 r n)) = lit5 ⟨r.val * 832 + n.val, hl⟩ := congrArg lit5 (Fin.ext hv)
  rw [e, lit5_at]
  rw [Batch.TT, ← ite_coe]
  refine word_bits _ _ ((b5_iff _).trans ?_)
  have h1 : (r.val * 832 + n.val) / 832 = r.val := by omega
  have h2 : (r.val * 832 + n.val) % 832 = n.val := by omega
  rw [h1, h2]

/-- The ones of constant 6 by position. -/
theorem b6_iff (k : Nat) : b6 k = true ↔ k % 64 < 32 ∧ k % 64 / 16 = k / 64 / 416 ∧ k % 64 % 16 = k / 64 % 16 := by
  unfold b6; rw [Bool.and_eq_true, Bool.and_eq_true, Nat.ble_eq, Nat.beq_eq, Nat.beq_eq]; exact Iff.rfl

/-- Constant 6 at a row and a column. -/
theorem cst6_at (r : Fin 832) (n : Fin 64) :
    (FloatOps.ofBits (F := Ideal) .f32 (lit6 (S832x64.rowMajor (ix2 r n)))) = ((Batch.SS r n : ℝ) : EReal) := by
  have hv : (S832x64.rowMajor (ix2 r n)).val = r.val * 64 + n.val := Shape.rowMajor_val_two _
  have hl : r.val * 64 + n.val < 53248 := by omega
  have e : lit6 (S832x64.rowMajor (ix2 r n)) = lit6 ⟨r.val * 64 + n.val, hl⟩ := congrArg lit6 (Fin.ext hv)
  rw [e, lit6_at]
  rw [Batch.SS, ← ite_coe]
  refine word_bits _ _ ((b6_iff _).trans ?_)
  have h1 : (r.val * 64 + n.val) / 64 = r.val := by omega
  have h2 : (r.val * 64 + n.val) % 64 = n.val := by omega
  rw [h1, h2]

/-- The ones of constant 7 by position. -/
theorem b7_iff (k : Nat) : b7 k = true ↔ 32 ≤ k % 64 ∧ (k % 64 - 32) / 16 = k / 64 / 64 ∧ k / 64 % 64 < 26 := by
  unfold b7; rw [Bool.and_eq_true, Bool.and_eq_true, Nat.ble_eq, Nat.beq_eq, Nat.ble_eq]; exact Iff.rfl

/-- Constant 7 at a row and a column. -/
theorem cst7_at (r : Fin 128) (n : Fin 64) :
    (FloatOps.ofBits (F := Ideal) .f32 (lit7 (S128x64.rowMajor (ix2 r n)))) = ((Batch.DD r n : ℝ) : EReal) := by
  have hv : (S128x64.rowMajor (ix2 r n)).val = r.val * 64 + n.val := Shape.rowMajor_val_two _
  have hl : r.val * 64 + n.val < 8192 := by omega
  have e : lit7 (S128x64.rowMajor (ix2 r n)) = lit7 ⟨r.val * 64 + n.val, hl⟩ := congrArg lit7 (Fin.ext hv)
  rw [e, lit7_at]
  rw [Batch.DD, ← ite_coe]
  refine word_bits _ _ ((b7_iff _).trans ?_)
  have h1 : (r.val * 64 + n.val) / 64 = r.val := by omega
  have h2 : (r.val * 64 + n.val) % 64 = n.val := by omega
  rw [h1, h2]

end Cert.Tables

end
-- ==== Proof.Graph.lean ====
/- What the first grid point computes for one graph: every value it forms, read at an index, is a real number of the
   specification. -/
module

public import proofs.«01_k».proof.Proof.Gen.KernelIdeal.Skeleton
public import proofs.«01_k».proof.Proof.Spec

@[expose] public section

set_option maxRecDepth 16384

noncomputable section

namespace Cert.Graph

open Idealize.ShloMosaic Idealize.ShloMosaic.TcCoe Idealize.SL.Sem
open Cert.KernelIdeal Cert.KernelIdeal.Gen
open Cert.Lift Cert.Spec

variable (p : Par)

/-- The adjacency. -/
theorem adj_at (v : Vec Ideal S1x3x26x26 .f32) (h : ∀ a m n, v (ix4 0 a m n) = ((p.msk a m n : ℝ) : EReal)) (m n : Fin 26) :
    k0_pay9 v (ix2 m n) = ((adj p m n : ℝ) : EReal) := by
  pointwise [k0_pay9]
  rw [h, h, h, ← EReal.coe_mul, ← EReal.coe_mul, ← EReal.coe_zero, max_coe]; rfl

/-- The link mask. -/
theorem link_at (v : Vec Ideal S1x3x26x26 .f32) (h : ∀ a m n, v (ix4 0 a m n) = ((p.msk a m n : ℝ) : EReal)) (m n : Fin 26) :
    k0_pay10 v (ix2 m n) = ((link p m n : ℝ) : EReal) := by
  pointwise [k0_pay10, adj_at p v h]
  by_cases hz : adj p m n = 0
  · rw [link, if_pos hz, hz]; simp
    show (((0#32 : BitVec 32).toInt : ℝ) : EReal) = 0
    simp
  · have hz' : ((adj p m n : ℝ) : EReal) ≠ 0 := fun e => hz (by exact_mod_cast e)
    rw [link, if_neg hz, decide_eq_true hz']; simp
    show (((1#32 : BitVec 32).toInt : ℝ) : EReal) = 1
    rw [show (1#32 : BitVec 32).toInt = 1 from by decide]; simp

/-- The column means. -/
theorem mu_at (v : Vec Ideal S1x3x26x26 .f32) (h : ∀ a m n, v (ix4 0 a m n) = ((p.msk a m n : ℝ) : EReal)) (n : Fin 26) :
    Ideal.div (k0_pay11 v (ix2 0 n)) (k0_pay12 (F := Ideal) (ix2 0 n)) = ((mu p n : ℝ) : EReal) := by
  pointwise [k0_pay11, k0_pay12, adj_at p v h]
  rw [ofBits_26, sum_coe, div_coe (by norm_num)]; rfl

/-- The link weights. -/
theorem wgt_at (E : Vec Ideal S26x26 .f32) (a l : FVec Ideal S26x26 .f32) (u q : FVec Ideal S1x26 .f32)
    (lw lb : Vec Ideal S26x1 .f32)
    (hE : ∀ m n, E (ix2 m n) = if m = n then 1 else 0)
    (ha : ∀ m n, a (ix2 m n) = ((adj p m n : ℝ) : EReal)) (hl : ∀ m n, l (ix2 m n) = ((link p m n : ℝ) : EReal))
    (hu : ∀ n, Ideal.div (u (ix2 0 n)) (q (ix2 0 n)) = ((mu p n : ℝ) : EReal))
    (hw : ∀ m, lw (ix2 m 0) = ((p.lw m : ℝ) : EReal)) (hb : ∀ m, lb (ix2 m 0) = ((p.lb m : ℝ) : EReal)) (m n : Fin 26) :
    k0_pay13 E a l u q lw lb (ix2 m n) = ((wgt p m n : ℝ) : EReal) := by
  pointwise [k0_pay13, ha, hl, hu, hw, hb, hE]
  have hv : Ideal.rsqrt (Ideal.div (∑ x, ((adj p x n : ℝ) : EReal) * ((adj p x n : ℝ) : EReal)) (Ideal.ofBits FTy.f32 0x41D00000#32)
      - ((mu p n : ℝ) : EReal) * ((mu p n : ℝ) : EReal) + Ideal.ofBits FTy.f32 0x3727C5AC#32)
      = (((Real.sqrt (var p n + eps))⁻¹ : ℝ) : EReal) := by
    simp only [← EReal.coe_mul]
    rw [sum_coe, ofBits_26, div_coe (by norm_num), ← EReal.coe_sub, var_eq, ofBits_eps, ← EReal.coe_add, rsqrt_coe (var_pos p n)]
  have hs : ∀ x, (((adj p x n : ℝ) : EReal) - ((mu p n : ℝ) : EReal)) * (((Real.sqrt (var p n + eps))⁻¹ : ℝ) : EReal)
      * ((p.lw x : ℝ) : EReal) + ((p.lb x : ℝ) : EReal) + (1 - ((link p x n : ℝ) : EReal)) * Ideal.ofBits FTy.f32 0xCE6E6B28#32
      + (if x = n then 1 else 0) = ((score p x n : ℝ) : EReal) := by
    intro x
    rw [ofBits_big, ite_coe]
    simp only [← EReal.coe_one, ← EReal.coe_sub, ← EReal.coe_mul, ← EReal.coe_add]
    rfl
  rw [hv]
  simp only [hs]
  rw [ofBits_bot]
  obtain ⟨M, hM⟩ := fold_max_coe fun x => score p x n
  rw [hM]
  simp only [← EReal.coe_sub, Ideal.exp_coe, sum_coe]
  rw [div_coe (sum_exp_ne _), softmax_shift (fun x => score p x n), ← EReal.coe_mul]; rfl

/-- The scale of the batch normalisation. -/
theorem s_at (bw rv : FVec Ideal S26x32 .f32) (hw : ∀ n k, bw (ix2 n k) = ((p.bw n k : ℝ) : EReal))
    (hv : ∀ n k, rv (ix2 n k) = ((p.rv n k : ℝ) : EReal)) (n : Fin 26) (k : Fin 32) :
    k0_pay16 bw rv (ix2 n k) = ((s p n k : ℝ) : EReal) := by
  pointwise [k0_pay16, hw, hv]
  rw [ofBits_eps, ← EReal.coe_add, rsqrt_coe (p.rv_pos n k), ← EReal.coe_mul]; rfl

/-- The shift of the batch normalisation. -/
theorem sh_at (bw rv : FVec Ideal S26x32 .f32) (bb rm : Vec Ideal S1x26x32 .f32) (hw : ∀ n k, bw (ix2 n k) = ((p.bw n k : ℝ) : EReal))
    (hv : ∀ n k, rv (ix2 n k) = ((p.rv n k : ℝ) : EReal)) (hb : ∀ n k, bb (ix3 0 n k) = ((p.bb n k : ℝ) : EReal))
    (hm : ∀ n k, rm (ix3 0 n k) = ((p.rm n k : ℝ) : EReal)) (n : Fin 26) (k : Fin 32) :
    k0_pay17 bw rv bb rm (ix2 n k) = ((sh p n k : ℝ) : EReal) := by
  pointwise [k0_pay17, hb, hm, s_at p bw rv hw hv]
  rw [← EReal.coe_mul, ← EReal.coe_sub]; rfl

/-- The first shifts, transposed. -/
theorem sh1_at (E : Vec Ideal S26x26 .f32) (bw rv : FVec Ideal S26x32 .f32) (bb rm : Vec Ideal S1x26x32 .f32)
    (hE : ∀ m n, E (ix2 m n) = if m = n then 1 else 0) (hw : ∀ n k, bw (ix2 n k) = ((p.bw n k : ℝ) : EReal))
    (hv : ∀ n k, rv (ix2 n k) = ((p.rv n k : ℝ) : EReal)) (hb : ∀ n k, bb (ix3 0 n k) = ((p.bb n k : ℝ) : EReal))
    (hm : ∀ n k, rm (ix3 0 n k) = ((p.rm n k : ℝ) : EReal)) (d : Fin 16) (n : Fin 26) :
    k0_pay18 E bw rv bb rm (ix2 d n) = ((sh p n (lo d) : ℝ) : EReal) := by
  pointwise [k0_pay18, hE, sh_at p bw rv bb rm hw hv hb hm]
  simp; rfl

/-- The last shifts, transposed. -/
theorem sh2_at (E : Vec Ideal S26x26 .f32) (bw rv : FVec Ideal S26x32 .f32) (bb rm : Vec Ideal S1x26x32 .f32)
    (hE : ∀ m n, E (ix2 m n) = if m = n then 1 else 0) (hw : ∀ n k, bw (ix2 n k) = ((p.bw n k : ℝ) : EReal))
    (hv : ∀ n k, rv (ix2 n k) = ((p.rv n k : ℝ) : EReal)) (hb : ∀ n k, bb (ix3 0 n k) = ((p.bb n k : ℝ) : EReal))
    (hm : ∀ n k, rm (ix3 0 n k) = ((p.rm n k : ℝ) : EReal)) (d : Fin 16) (n : Fin 26) :
    k0_pay19 E bw rv bb rm (ix2 d n) = ((sh p n (hi d) : ℝ) : EReal) := by
  pointwise [k0_pay19, hE, sh_at p bw rv bb rm hw hv hb hm]
  simp; rfl

/-- The linear layer's first rows, one value for each flat row and column of the same field. -/
theorem g1_at (PT : Vec Ideal S26x416 .f32) (P2T : Vec Ideal S16x416 .f32) (E : Vec Ideal S26x26 .f32)
    (bw rv : FVec Ideal S26x32 .f32) (W : Vec Ideal S1x1x1x16x16 .f32)
    (hPT : ∀ n c, PT (ix2 n c) = if n = fld c then 1 else 0) (hP2T : ∀ d c, P2T (ix2 d c) = if d = dim c then 1 else 0)
    (hE : ∀ m n, E (ix2 m n) = if m = n then 1 else 0) (hw : ∀ n k, bw (ix2 n k) = ((p.bw n k : ℝ) : EReal))
    (hv : ∀ n k, rv (ix2 n k) = ((p.rv n k : ℝ) : EReal))
    (hW : ∀ a b, W (ix5 0 0 0 a b) = ((p.W (lo a) b : ℝ) : EReal)) (d : Fin 16) (c : Fin 416) :
    k0_pay22 PT P2T E bw rv W (ix2 d c)
      = ((s p (fld c) (lo d) * p.W (lo d) (dim c) : ℝ) : EReal) := by
  pointwise [k0_pay22, k0_pay20, hE, hPT, hP2T, hW, s_at p bw rv hw hv]
  simp; rfl

/-- The weighted part of the folded matrix. -/
theorem g2_at (P : Vec Ideal S416x26 .f32) (PT : Vec Ideal S26x416 .f32) (P2 : Vec Ideal S416x16 .f32)
    (P2T : Vec Ideal S16x416 .f32) (E : Vec Ideal S26x26 .f32) (A : FVec Ideal S26x26 .f32)
    (bw rv : FVec Ideal S26x32 .f32) (W : Vec Ideal S1x1x1x16x16 .f32)
    (hP : ∀ r n, P (ix2 r n) = if fld r = n then 1 else 0) (hP2 : ∀ r d, P2 (ix2 r d) = if dim r = d then 1 else 0)
    (hPT : ∀ n c, PT (ix2 n c) = if n = fld c then 1 else 0) (hP2T : ∀ d c, P2T (ix2 d c) = if d = dim c then 1 else 0)
    (hE : ∀ m n, E (ix2 m n) = if m = n then 1 else 0) (hA : ∀ m n, A (ix2 m n) = ((wgt p m n : ℝ) : EReal))
    (hw : ∀ n k, bw (ix2 n k) = ((p.bw n k : ℝ) : EReal)) (hv : ∀ n k, rv (ix2 n k) = ((p.rv n k : ℝ) : EReal))
    (hW : ∀ a b, W (ix5 0 0 0 a b) = ((p.W (hi a) b : ℝ) : EReal)) (r c : Fin 416) :
    k0_pay23 P PT P2 P2T E A bw rv W (ix2 r c)
      = ((wgt p (fld r) (fld c) * (s p (fld c) (hi (dim r)) * p.W (hi (dim r)) (dim c)) : ℝ) : EReal) := by
  pointwise [k0_pay23, k0_pay21, hE, hP, hP2, hPT, hP2T, hW, hA, s_at p bw rv hw hv]
  simp; rfl

/-- The folded matrix. -/
theorem ct_at (P2 : Vec Ideal S416x16 .f32) (DD : FVec Ideal S416x416 .f32) (g1 : FVec Ideal S16x416 .f32)
    (g2 : FVec Ideal S416x416 .f32)
    (hP2 : ∀ r d, P2 (ix2 r d) = if dim r = d then 1 else 0) (hDD : ∀ r c, DD (ix2 r c) = if fld r = fld c then 1 else 0)
    (h1 : ∀ d c, g1 (ix2 d c) = ((s p (fld c) (lo d) * p.W (lo d) (dim c) : ℝ) : EReal))
    (h2 : ∀ r c, g2 (ix2 r c)
      = ((wgt p (fld r) (fld c) * (s p (fld c) (hi (dim r)) * p.W (hi (dim r)) (dim c)) : ℝ) : EReal)) (r c : Fin 416) :
    k0_pay24 P2 DD g1 g2 (ix2 r c) = ((Ct p r c : ℝ) : EReal) := by
  pointwise [k0_pay24, hP2, hDD, h1, h2]
  rw [ite_coe]
  simp only [ite_mul, one_mul, zero_mul, Finset.sum_ite_eq, Finset.mem_univ, if_true, zero_add]
  rw [← EReal.coe_mul, ← EReal.coe_add]; rfl

/-- The folded offset. -/
theorem ev_at (PT : Vec Ideal S26x416 .f32) (P2T : Vec Ideal S16x416 .f32) (ones : Vec Ideal S1x26 .f32)
    (h1 h2 : FVec Ideal S16x26 .f32) (W1 W2 : FVec Ideal S16x16 .f32) (gb : Vec Ideal S1x1x26x16 .f32)
    (hPT : ∀ n c, PT (ix2 n c) = if n = fld c then 1 else 0) (hP2T : ∀ d c, P2T (ix2 d c) = if d = dim c then 1 else 0)
    (ho : ∀ n, ones (ix2 0 n) = 1)
    (hh1 : ∀ d n, h1 (ix2 d n) = ((sh p n (lo d) : ℝ) : EReal)) (hh2 : ∀ d n, h2 (ix2 d n) = ((sh p n (hi d) : ℝ) : EReal))
    (hW1 : ∀ a b, W1 (ix2 a b) = ((p.W (lo a) b : ℝ) : EReal)) (hW2 : ∀ a b, W2 (ix2 a b) = ((p.W (hi a) b : ℝ) : EReal))
    (hg : ∀ n d, gb (ix4 0 0 n d) = ((p.gb n d : ℝ) : EReal)) (c : Fin 416) :
    k0_pay26 PT P2T ones h1 h2 W1 W2 gb (ix2 0 c) = ((ev p c : ℝ) : EReal) := by
  pointwise [k0_pay26, hPT, hP2T, ho, hh1, hh2, hW1, hW2, hg]
  simp only [← EReal.coe_mul, sum_coe, ← EReal.coe_add, ite_mul, mul_ite, one_mul, zero_mul, mul_one, mul_zero,
    Finset.sum_ite_eq, Finset.sum_ite_eq', Finset.mem_univ, if_true, zero_add]
  rfl

/-- The gate's columns of the folded matrix. -/
theorem cg_at (P2 : Vec Ideal S416x16 .f32) (DD : FVec Ideal S416x416 .f32) (gw : Vec Ideal S416x26 .f32)
    (g1 : FVec Ideal S16x416 .f32) (g2 : FVec Ideal S416x416 .f32)
    (hc : ∀ r c, k0_pay24 P2 DD g1 g2 (ix2 r c) = ((Ct p r c : ℝ) : EReal))
    (hg : ∀ c n, gw (ix2 c n) = ((p.gw c n : ℝ) : EReal)) (r : Fin 416) (n : Fin 26) :
    k0_pay28 P2 DD gw g1 g2 (ix2 r n) = ((Cg p r n : ℝ) : EReal) := by
  pointwise [k0_pay28, hc, hg]
  simp only [← EReal.coe_mul, sum_coe, zero_add]; rfl

/-- The gate's part of the folded offset. -/
theorem eg_at (PT : Vec Ideal S26x416 .f32) (P2T : Vec Ideal S16x416 .f32) (gw : Vec Ideal S416x26 .f32)
    (ones : Vec Ideal S1x26 .f32)
    (h1 h2 : FVec Ideal S16x26 .f32) (W1 W2 : FVec Ideal S16x16 .f32) (gb : Vec Ideal S1x1x26x16 .f32)
    (gg : Vec Ideal S1x26 .f32)
    (he : ∀ c, k0_pay26 PT P2T ones h1 h2 W1 W2 gb (ix2 0 c) = ((ev p c : ℝ) : EReal))
    (hg : ∀ c n, gw (ix2 c n) = ((p.gw c n : ℝ) : EReal)) (hgg : ∀ n, gg (ix2 0 n) = ((p.gg n : ℝ) : EReal)) (n : Fin 26) :
    k0_pay31 (k0_pay30 PT P2T gw ones h1 h2 W1 W2 gb gg) (ix2 0 n) = ((eg p n : ℝ) : EReal) := by
  pointwise [k0_pay31, k0_pay30, he, hg, hgg]
  simp only [← EReal.coe_mul, sum_coe, zero_add, ← EReal.coe_add]; rfl

end Cert.Graph

end
-- ==== Proof.Graph1.lean ====
/- The stored values of the two graphs: the folded matrix, the gate's columns, the folded offset and the gate's part of
   it, each read at an index. The second graph's operations are the first graph's. -/
module

public import proofs.«01_k».proof.Proof.Graph

@[expose] public section

set_option maxRecDepth 16384

noncomputable section

namespace Cert.Graph

open Idealize.ShloMosaic Idealize.ShloMosaic.TcCoe Idealize.SL.Sem
open Cert.KernelIdeal Cert.KernelIdeal.Gen
open Cert.Lift Cert.Spec

/-- The constant matrices hold what they should. -/
structure Consts (P : Vec Ideal S416x26 .f32) (PT : Vec Ideal S26x416 .f32) (P2 : Vec Ideal S416x16 .f32)
    (P2T : Vec Ideal S16x416 .f32) (DD : Vec Ideal S416x416 .f32) (E : Vec Ideal S26x26 .f32) (ones : Vec Ideal S1x26 .f32) : Prop where
  hP : ∀ r n, P (ix2 r n) = if fld r = n then 1 else 0
  hPT : ∀ n c, PT (ix2 n c) = if n = fld c then 1 else 0
  hP2 : ∀ r d, P2 (ix2 r d) = if dim r = d then 1 else 0
  hP2T : ∀ d c, P2T (ix2 d c) = if d = dim c then 1 else 0
  hDD : ∀ r c, DD (ix2 r c) = if fld r = fld c then 1 else 0
  hE : ∀ m n, E (ix2 m n) = if m = n then 1 else 0
  ho : ∀ n, ones (ix2 0 n) = 1

/-- The loaded parameters of a graph are the reals of the specification. -/
structure Loads (p : Par) (v : Vec Ideal S1x3x26x26 .f32) (lw lb : Vec Ideal S26x1 .f32) (bw rv bb rm : Vec Ideal S1x26x32 .f32)
    (W1 W2 : Vec Ideal S1x1x1x16x16 .f32) (gb : Vec Ideal S1x1x26x16 .f32) (gw : Vec Ideal S416x26 .f32) (gg : Vec Ideal S1x26 .f32) : Prop where
  hv : ∀ a m n, v (ix4 0 a m n) = ((p.msk a m n : ℝ) : EReal)
  hlw : ∀ m, lw (ix2 m 0) = ((p.lw m : ℝ) : EReal)
  hlb : ∀ m, lb (ix2 m 0) = ((p.lb m : ℝ) : EReal)
  hbw : ∀ n k, bw (ix3 0 n k) = ((p.bw n k : ℝ) : EReal)
  hrv : ∀ n k, rv (ix3 0 n k) = ((p.rv n k : ℝ) : EReal)
  hbb : ∀ n k, bb (ix3 0 n k) = ((p.bb n k : ℝ) : EReal)
  hrm : ∀ n k, rm (ix3 0 n k) = ((p.rm n k : ℝ) : EReal)
  hW1 : ∀ a b, W1 (ix5 0 0 0 a b) = ((p.W (lo a) b : ℝ) : EReal)
  hW2 : ∀ a b, W2 (ix5 0 0 0 a b) = ((p.W (hi a) b : ℝ) : EReal)
  hgb : ∀ n d, gb (ix4 0 0 n d) = ((p.gb n d : ℝ) : EReal)
  hgw : ∀ c n, gw (ix2 c n) = ((p.gw c n : ℝ) : EReal)
  hgg : ∀ n, gg (ix2 0 n) = ((p.gg n : ℝ) : EReal)

/-- The matrix of the pairs of columns of one field, under the cast to its own shape. -/
theorem dd_at (DD : Vec Ideal S416x416 .f32) (h : ∀ r c, DD (ix2 r c) = if fld r = fld c then 1 else 0) (r c : Fin 416) :
    k0_pay7 DD (ix2 r c) = if fld r = fld c then 1 else 0 := by
  pointwise [k0_pay7, h]

/-- The loaded scales without their leading axis. -/
theorem bnw_at (v : Vec Ideal S1x26x32 .f32) (f : Fin 26 → Fin 32 → ℝ) (h : ∀ n k, v (ix3 0 n k) = ((f n k : ℝ) : EReal)) (n : Fin 26) (k : Fin 32) :
    k0_pay14 v (ix2 n k) = ((f n k : ℝ) : EReal) := by
  pointwise [k0_pay14, h]
/-- The loaded variances without their leading axis. -/
theorem bnv_at (v : Vec Ideal S1x26x32 .f32) (f : Fin 26 → Fin 32 → ℝ) (h : ∀ n k, v (ix3 0 n k) = ((f n k : ℝ) : EReal)) (n : Fin 26) (k : Fin 32) :
    k0_pay15 v (ix2 n k) = ((f n k : ℝ) : EReal) := by
  pointwise [k0_pay15, h]
/-- The loaded first rows of the linear layer without their leading axes. -/
theorem lin1_at (v : Vec Ideal S1x1x1x16x16 .f32) (f : Fin 16 → Fin 16 → ℝ) (h : ∀ n k, v (ix5 0 0 0 n k) = ((f n k : ℝ) : EReal)) (n k : Fin 16) :
    k0_pay20 v (ix2 n k) = ((f n k : ℝ) : EReal) := by
  pointwise [k0_pay20, h]
/-- The loaded last rows of the linear layer without their leading axes. -/
theorem lin2_at (v : Vec Ideal S1x1x1x16x16 .f32) (f : Fin 16 → Fin 16 → ℝ) (h : ∀ n k, v (ix5 0 0 0 n k) = ((f n k : ℝ) : EReal)) (n k : Fin 16) :
    k0_pay21 v (ix2 n k) = ((f n k : ℝ) : EReal) := by
  pointwise [k0_pay21, h]

variable {p : Par} {P : Vec Ideal S416x26 .f32} {PT : Vec Ideal S26x416 .f32} {P2 : Vec Ideal S416x16 .f32}
    {P2T : Vec Ideal S16x416 .f32} {DD : Vec Ideal S416x416 .f32} {E : Vec Ideal S26x26 .f32} {ones : Vec Ideal S1x26 .f32}
    {v : Vec Ideal S1x3x26x26 .f32} {lw lb : Vec Ideal S26x1 .f32} {bw rv bb rm : Vec Ideal S1x26x32 .f32}
    {W1 W2 : Vec Ideal S1x1x1x16x16 .f32} {gb : Vec Ideal S1x1x26x16 .f32} {gw : Vec Ideal S416x26 .f32} {gg : Vec Ideal S1x26 .f32}
    (K : Consts P PT P2 P2T DD E ones) (L : Loads p v lw lb bw rv bb rm W1 W2 gb gw gg)

include K L

/-- The first graph's folded matrix. -/
theorem ct0_at (r c : Fin 416) :
    k0_pay24 P2 (k0_pay7 DD) (k0_pay22 PT P2T E (k0_pay14 bw) (k0_pay15 rv) W1)
      (k0_pay23 P PT P2 P2T E (k0_pay13 E (k0_pay9 v) (k0_pay10 v) (k0_pay11 v) k0_pay12 lw lb) (k0_pay14 bw) (k0_pay15 rv) W2) (ix2 r c) = ((Ct p r c : ℝ) : EReal) :=
  ct_at p P2 _ _ _ K.hP2 (dd_at DD K.hDD)
    (g1_at p PT P2T E _ _ W1 K.hPT K.hP2T K.hE (bnw_at bw p.bw L.hbw) (bnv_at rv p.rv L.hrv) L.hW1)
    (g2_at p P PT P2 P2T E _ _ _ W2 K.hP K.hP2 K.hPT K.hP2T K.hE
      (wgt_at p E _ _ _ _ lw lb K.hE (adj_at p v L.hv) (link_at p v L.hv) (mu_at p v L.hv) L.hlw L.hlb)
      (bnw_at bw p.bw L.hbw) (bnv_at rv p.rv L.hrv) L.hW2) r c

/-- The first graph's stored matrix. -/
theorem C0_at (r c : Fin 416) :
    k0_pay25 P2 (k0_pay7 DD) (k0_pay22 PT P2T E (k0_pay14 bw) (k0_pay15 rv) W1)
      (k0_pay23 P PT P2 P2T E (k0_pay13 E (k0_pay9 v) (k0_pay10 v) (k0_pay11 v) k0_pay12 lw lb) (k0_pay14 bw) (k0_pay15 rv) W2) (ix2 r c) = ((Ct p r c : ℝ) : EReal) := by
  pointwise [k0_pay25]
  exact ct0_at K L r c

/-- The first graph's stored gate columns. -/
theorem Cg0_at (r : Fin 416) (n : Fin 26) :
    k0_pay28 P2 (k0_pay7 DD) gw (k0_pay22 PT P2T E (k0_pay14 bw) (k0_pay15 rv) W1)
      (k0_pay23 P PT P2 P2T E (k0_pay13 E (k0_pay9 v) (k0_pay10 v) (k0_pay11 v) k0_pay12 lw lb) (k0_pay14 bw) (k0_pay15 rv) W2) (ix2 r n) = ((Cg p r n : ℝ) : EReal) :=
  cg_at p P2 _ gw _ _ (ct0_at K L) L.hgw r n

/-- The first graph's offset. -/
theorem ev0_at (c : Fin 416) :
    k0_pay26 PT P2T ones (k0_pay18 E (k0_pay14 bw) (k0_pay15 rv) bb rm)
      (k0_pay19 E (k0_pay14 bw) (k0_pay15 rv) bb rm) (k0_pay20 W1) (k0_pay21 W2) gb (ix2 0 c)
      = ((ev p c : ℝ) : EReal) :=
  ev_at p PT P2T ones _ _ _ _ gb K.hPT K.hP2T K.ho
    (sh1_at p E _ _ bb rm K.hE (bnw_at bw p.bw L.hbw) (bnv_at rv p.rv L.hrv) L.hbb L.hrm)
    (sh2_at p E _ _ bb rm K.hE (bnw_at bw p.bw L.hbw) (bnv_at rv p.rv L.hrv) L.hbb L.hrm)
    (lin1_at W1 _ L.hW1) (lin2_at W2 _ L.hW2) L.hgb c

/-- The first graph's stored offset. -/
theorem e0_at (c : Fin 416) :
    k0_pay27 PT P2T ones (k0_pay18 E (k0_pay14 bw) (k0_pay15 rv) bb rm)
      (k0_pay19 E (k0_pay14 bw) (k0_pay15 rv) bb rm) (k0_pay20 W1) (k0_pay21 W2) gb (ix2 0 c)
      = ((ev p c : ℝ) : EReal) := by
  pointwise [k0_pay27]
  exact ev0_at K L c

/-- The first graph's stored gate offset. -/
theorem eg0_at (n : Fin 26) :
    k0_pay31 (k0_pay30 PT P2T gw ones (k0_pay18 E (k0_pay14 bw) (k0_pay15 rv) bb rm)
      (k0_pay19 E (k0_pay14 bw) (k0_pay15 rv) bb rm) (k0_pay20 W1) (k0_pay21 W2) gb gg) (ix2 0 n)
      = ((eg p n : ℝ) : EReal) :=
  eg_at p PT P2T gw ones _ _ _ _ gb gg (ev0_at K L) L.hgw L.hgg n

/-- The second graph's folded matrix. -/
theorem ct1_at (r c : Fin 416) :
    k0_pay44 P PT P2 P2T (k0_pay7 DD) (k0_pay35 E (k0_pay33 v) (k0_pay34 v lw) lb) (k0_pay38 E bw rv) (k0_pay39 E bw rv) W1 W2 (ix2 r c)
      = ((Ct p r c : ℝ) : EReal) :=
  (congrFun (show k0_pay44 P PT P2 P2T (k0_pay7 DD) (k0_pay35 E (k0_pay33 v) (k0_pay34 v lw) lb) (k0_pay38 E bw rv) (k0_pay39 E bw rv) W1 W2
    = k0_pay24 P2 (k0_pay7 DD) (k0_pay22 PT P2T E (k0_pay14 bw) (k0_pay15 rv) W1)
      (k0_pay23 P PT P2 P2T E (k0_pay13 E (k0_pay9 v) (k0_pay10 v) (k0_pay11 v) k0_pay12 lw lb) (k0_pay14 bw) (k0_pay15 rv) W2) from rfl) (ix2 r c)).trans (ct0_at K L r c)

/-- The second graph's stored matrix. -/
theorem C1_at (r c : Fin 416) :
    k0_pay45 P PT P2 P2T (k0_pay7 DD) (k0_pay35 E (k0_pay33 v) (k0_pay34 v lw) lb) (k0_pay38 E bw rv) (k0_pay39 E bw rv) W1 W2 (ix2 r c)
      = ((Ct p r c : ℝ) : EReal) := by
  pointwise [k0_pay45, ct1_at K L]

/-- The second graph's stored gate columns. -/
theorem Cg1_at (r : Fin 416) (n : Fin 26) :
    k0_pay3 gw (k0_pay44 P PT P2 P2T (k0_pay7 DD) (k0_pay35 E (k0_pay33 v) (k0_pay34 v lw) lb) (k0_pay38 E bw rv) (k0_pay39 E bw rv) W1 W2) (ix2 r n)
      = ((Cg p r n : ℝ) : EReal) := by
  have hgw := L.hgw
  pointwise [k0_pay3, ct1_at K L, hgw]
  simp only [← EReal.coe_mul, sum_coe, zero_add]; rfl

/-- The second graph's offset. -/
theorem ev1_at (c : Fin 416) :
    k0_pay1 ones (k0_pay46 PT P2T E (k0_pay40 E bw rv bb rm) (k0_pay41 bw rv bb rm) W1 W2 gb) (constant S1x416 .f32 0x00000000#32) (ix2 0 c)
      = ((ev p c : ℝ) : EReal) :=
  (congrFun (show k0_pay1 ones (k0_pay46 PT P2T E (k0_pay40 E bw rv bb rm) (k0_pay41 bw rv bb rm) W1 W2 gb) (constant S1x416 .f32 0x00000000#32)
    = k0_pay26 PT P2T ones (k0_pay18 E (k0_pay14 bw) (k0_pay15 rv) bb rm)
      (k0_pay19 E (k0_pay14 bw) (k0_pay15 rv) bb rm) (k0_pay20 W1) (k0_pay21 W2) gb from rfl) (ix2 0 c)).trans (ev0_at K L c)

/-- The second graph's stored offset. -/
theorem e1_at (c : Fin 416) :
    k0_pay2 ones (k0_pay46 PT P2T E (k0_pay40 E bw rv bb rm) (k0_pay41 bw rv bb rm) W1 W2 gb) (constant S1x416 .f32 0x00000000#32) (ix2 0 c)
      = ((ev p c : ℝ) : EReal) := by
  pointwise [k0_pay2, ev1_at K L]

/-- The second graph's stored gate offset. -/
theorem eg1_at (n : Fin 26) :
    k0_pay5 gw ones (k0_pay46 PT P2T E (k0_pay40 E bw rv bb rm) (k0_pay41 bw rv bb rm) W1 W2 gb) (constant S1x416 .f32 0x00000000#32) gg (ix2 0 n)
      = ((eg p n : ℝ) : EReal) := by
  have hgw := L.hgw
  have hgg := L.hgg
  pointwise [k0_pay5, ev1_at K L, hgw, hgg]
  simp only [← EReal.coe_mul, sum_coe, zero_add, ← EReal.coe_add]; rfl

omit K L in
/-- The padding of the matrix, first graph. -/
theorem z0_at (r : Fin 416) (n : Fin 38) : (k0_pay29 : FVec Ideal S416x38 .bf16) (ix2 r n) = ((0 : ℝ) : EReal) := by
  pointwise [k0_pay29]
  simp [Ideal.ofBits, Ideal.ieee]
omit K L in
/-- The padding of the matrix, second graph. -/
theorem z1_at (r : Fin 416) (n : Fin 38) : (k0_pay4 : FVec Ideal S416x38 .bf16) (ix2 r n) = ((0 : ℝ) : EReal) := by
  pointwise [k0_pay4]
  simp [Ideal.ofBits, Ideal.ieee]
omit K L in
/-- The padding of the offset. -/
theorem ze_at (n : Fin 960) : (k0_pay8 : FVec Ideal S1x960 .f32) (ix2 0 n) = ((0 : ℝ) : EReal) := by
  pointwise [k0_pay8]
  rfl

end Cert.Graph

end
-- ==== Proof.Blocks.lean ====
/- The input blocks of a grid point, read at an index: entries of the arguments and of the constant matrices. -/
module

public import proofs.«01_k».proof.Proof.Frame
public import proofs.«01_k».proof.Proof.Consts
public import proofs.«01_k».proof.Proof.Graph1
public import Idealize.ShloMosaic.Lib.Pipeline.ValueKit

@[expose] public section

set_option maxRecDepth 16384

noncomputable section

namespace Cert.Blocks

open Idealize.ShloMosaic Idealize.ShloMosaic.TcCoe Idealize.SL.Sem
open Idealize.ShloMosaic.Pipeline (Dat)
open Cert.KernelIdeal Cert.KernelIdeal.Gen
open Cert.Lift Cert.Spec

variable (m : (ℓ : Loc nD τ sig) → Buf (Elt Ideal) ℓ)

/-- Where the blocks lie. -/
theorem idx : ∀ t : Fin cfg0.N, (win0_0.index t = ![0, 0, 0, 0] ∧ win0_1.index t = ![0, 0] ∧ win0_2.index t = ![0, 0]
    ∧ win0_3.index t = ![0, 0, 0] ∧ win0_4.index t = ![0, 0, 0] ∧ win0_5.index t = ![0, 0, 0] ∧ win0_6.index t = ![0, 0, 0]
    ∧ win0_7.index t = ![0, 0, 0, 0, 0] ∧ win0_8.index t = ![0, 0, 0, 0] ∧ win0_9.index t = ![0, 0] ∧ win0_10.index t = ![0, 0]
    ∧ win0_11.index t = ![0, 0]) ∧ win0_12.index t = ![0, 0] ∧ win0_13.index t = ![0, 0] ∧ win0_14.index t = ![0, 0] ∧ win0_15.index t = ![0, 0]
    ∧ win0_16.index t = ![0, 0] ∧ win0_17.index t = ![0, 0] ∧ win0_18.index t = ![t.val, 0] ∧ win0_19.index t = ![0, 0]
    ∧ win0_20.index t = ![0, 0] ∧ win0_21.index t = ![0, 0] ∧ win0_22.index t = ![t.val, 0] :=
  (by decide +kernel : ∀ t : Fin grid0.N, _)

/-- The arguments are the reals of the specification. -/
structure Args (c : Dev nD) (p : Fin 2 → Par) (X : Fin 16384 → Fin 26 → Fin 16 → ℝ) : Prop where
  x : ∀ b n d, (m ((c : Thread nD τ).loc main_arg0) : FVec Ideal S16384x26x16 .f32) (ix3 b n d) = ((X b n d : ℝ) : EReal)
  msk : ∀ t a i n, (m ((c : Thread nD τ).loc main_arg1) : FVec Ideal S2x3x26x26 .f32) (ix4 t a i n) = (((p t).msk a i n : ℝ) : EReal)
  W : ∀ t k d, (m ((c : Thread nD τ).loc main_arg2) : FVec Ideal S1x2x1x32x16 .f32) (ix5 0 t 0 k d) = (((p t).W k d : ℝ) : EReal)
  gb : ∀ t n d, (m ((c : Thread nD τ).loc main_arg3) : FVec Ideal S2x1x26x16 .f32) (ix4 t 0 n d) = (((p t).gb n d : ℝ) : EReal)
  lw : ∀ t n, (m ((c : Thread nD τ).loc main_arg4) : FVec Ideal S26 .f32) (ix1 n) = (((p t).lw n : ℝ) : EReal)
  lb : ∀ t n, (m ((c : Thread nD τ).loc main_arg5) : FVec Ideal S26 .f32) (ix1 n) = (((p t).lb n : ℝ) : EReal)
  bw : ∀ t n k (i : Fin 1664), i.val = t.val * 832 + n.val * 32 + k.val →
    (m ((c : Thread nD τ).loc main_arg6) : FVec Ideal S1664 .f32) (ix1 i) = (((p t).bw n k : ℝ) : EReal)
  bb : ∀ t n k (i : Fin 1664), i.val = t.val * 832 + n.val * 32 + k.val →
    (m ((c : Thread nD τ).loc main_arg7) : FVec Ideal S1664 .f32) (ix1 i) = (((p t).bb n k : ℝ) : EReal)
  rm : ∀ t n k (i : Fin 1664), i.val = t.val * 832 + n.val * 32 + k.val →
    (m ((c : Thread nD τ).loc main_arg8) : FVec Ideal S1664 .f32) (ix1 i) = (((p t).rm n k : ℝ) : EReal)
  rv : ∀ t n k (i : Fin 1664), i.val = t.val * 832 + n.val * 32 + k.val →
    (m ((c : Thread nD τ).loc main_arg9) : FVec Ideal S1664 .f32) (ix1 i) = (((p t).rv n k : ℝ) : EReal)
  gw : ∀ t k n, (m ((c : Thread nD τ).loc main_arg10) : FVec Ideal S416x26 .f32) (ix2 k n) = (((p t).gw k n : ℝ) : EReal)
  gg : ∀ t n, (m ((c : Thread nD τ).loc main_arg11) : FVec Ideal S26 .f32) (ix1 n) = (((p t).gg n : ℝ) : EReal)

variable (c : Dev nD) (t : Fin cfg0.N)

/-- A load through a rectangle reads the array at the shifted index. -/
theorem ld_at {S : Shape} {e : EltTy} (Z : S.Idx → Elt Ideal e) (off size : Fin S.rank → ℕ) (inb : ∀ a, off a + size a ≤ S.size a)
    (x : (Rect.unit off size inb).shape.Idx) (y : S.Idx) (h : ∀ a, (y a).val = off a + (x a).val) :
    View.ld Z (Rect.unit off size inb) x = Z y := by
  refine congrArg Z (funext fun a => Fin.ext ?_)
  rw [h a]
  show off a + 1 * (x a).val = _
  rw [Nat.one_mul]

/-- What the launch finds in a reshaped argument. -/
theorem V_main_v4 : V m c main_v4 = (shapeCast S26x1 (m ((c : Thread nD τ).loc main_arg4) : FVec Ideal S26 .f32) shapeCasts_S26_S26x1 : FVec Ideal S26x1 .f32) := by
  simp only [V, V0, hostOps0, List.flatten_cons, List.flatten_nil, List.append_nil]
  after_results
  rfl

/-- What the launch finds in a reshaped argument. -/
theorem V_main_v5 : V m c main_v5 = (shapeCast S26x1 (m ((c : Thread nD τ).loc main_arg5) : FVec Ideal S26 .f32) shapeCasts_S26_S26x1 : FVec Ideal S26x1 .f32) := by
  simp only [V, V0, hostOps0, List.flatten_cons, List.flatten_nil, List.append_nil]
  after_results
  rfl

/-- What the launch finds in a reshaped argument. -/
theorem V_main_v6 : V m c main_v6 = (shapeCast S2x26x32 (m ((c : Thread nD τ).loc main_arg6) : FVec Ideal S1664 .f32) shapeCasts_S1664_S2x26x32 : FVec Ideal S2x26x32 .f32) := by
  simp only [V, V0, hostOps0, List.flatten_cons, List.flatten_nil, List.append_nil]
  after_results
  rfl

/-- What the launch finds in a reshaped argument. -/
theorem V_main_v7 : V m c main_v7 = (shapeCast S2x26x32 (m ((c : Thread nD τ).loc main_arg7) : FVec Ideal S1664 .f32) shapeCasts_S1664_S2x26x32 : FVec Ideal S2x26x32 .f32) := by
  simp only [V, V0, hostOps0, List.flatten_cons, List.flatten_nil, List.append_nil]
  after_results
  rfl

/-- What the launch finds in a reshaped argument. -/
theorem V_main_v8 : V m c main_v8 = (shapeCast S2x26x32 (m ((c : Thread nD τ).loc main_arg8) : FVec Ideal S1664 .f32) shapeCasts_S1664_S2x26x32 : FVec Ideal S2x26x32 .f32) := by
  simp only [V, V0, hostOps0, List.flatten_cons, List.flatten_nil, List.append_nil]
  after_results
  rfl

/-- What the launch finds in a reshaped argument. -/
theorem V_main_v9 : V m c main_v9 = (shapeCast S2x26x32 (m ((c : Thread nD τ).loc main_arg9) : FVec Ideal S1664 .f32) shapeCasts_S1664_S2x26x32 : FVec Ideal S2x26x32 .f32) := by
  simp only [V, V0, hostOps0, List.flatten_cons, List.flatten_nil, List.append_nil]
  after_results
  rfl

/-- What the launch finds in a reshaped argument. -/
theorem V_main_v10 : V m c main_v10 = (shapeCast S1x26 (m ((c : Thread nD τ).loc main_arg11) : FVec Ideal S26 .f32) shapeCasts_S26_S1x26 : FVec Ideal S1x26 .f32) := by
  simp only [V, V0, hostOps0, List.flatten_cons, List.flatten_nil, List.append_nil]
  after_results
  rfl

/-- What the launch finds in the flattened rows. -/
theorem V_main_v3 : V m c main_v3 = (truncf .bf16 (shapeCast S16384x416 (m ((c : Thread nD τ).loc main_arg0) : FVec Ideal S16384x26x16 .f32) shapeCasts_S16384x26x16_S16384x416) bitsLt_bf16_f32 : FVec Ideal S16384x416 .bf16) := by
  simp only [V, V0, hostOps0, List.flatten_cons, List.flatten_nil, List.append_nil]
  after_results
  rfl

/-- What the launch finds in a constant matrix. -/
theorem V_main_cst_0 : V m c main_cst_0 = (fun i => FloatOps.ofBits .f32 (lit1 (S416x26.rowMajor i)) : FVec Ideal S416x26 .f32) := by
  simp only [V, V0, hostOps0, List.flatten_cons, List.flatten_nil, List.append_nil]
  after_results
  rfl

/-- What the launch finds in a constant matrix. -/
theorem V_main_cst_1 : V m c main_cst_1 = (fun i => FloatOps.ofBits .f32 (lit2 (S26x416.rowMajor i)) : FVec Ideal S26x416 .f32) := by
  simp only [V, V0, hostOps0, List.flatten_cons, List.flatten_nil, List.append_nil]
  after_results
  rfl

/-- What the launch finds in a constant matrix. -/
theorem V_main_cst_2 : V m c main_cst_2 = (fun i => FloatOps.ofBits .f32 (lit3 (S416x16.rowMajor i)) : FVec Ideal S416x16 .f32) := by
  simp only [V, V0, hostOps0, List.flatten_cons, List.flatten_nil, List.append_nil]
  after_results
  rfl

/-- What the launch finds in a constant matrix. -/
theorem V_main_cst_3 : V m c main_cst_3 = (fun i => FloatOps.ofBits .f32 (lit4 (S16x416.rowMajor i)) : FVec Ideal S16x416 .f32) := by
  simp only [V, V0, hostOps0, List.flatten_cons, List.flatten_nil, List.append_nil]
  after_results
  rfl

/-- What the launch finds in a constant matrix. -/
theorem V_main_cst : V m c main_cst = (fun i => FloatOps.ofBits .f32 (lit0 (S26x26.rowMajor i)) : FVec Ideal S26x26 .f32) := by
  simp only [V, V0, hostOps0, List.flatten_cons, List.flatten_nil, List.append_nil]
  after_results
  rfl

/-- What the launch finds in a constant matrix. -/
theorem V_main_cst_5 : V m c main_cst_5 = (fun i => FloatOps.ofBits .f32 (lit5 (S128x832.rowMajor i)) : FVec Ideal S128x832 .f32) := by
  simp only [V, V0, hostOps0, List.flatten_cons, List.flatten_nil, List.append_nil]
  after_results
  rfl

/-- What the launch finds in a constant matrix. -/
theorem V_main_cst_6 : V m c main_cst_6 = (fun i => FloatOps.ofBits .f32 (lit6 (S832x64.rowMajor i)) : FVec Ideal S832x64 .f32) := by
  simp only [V, V0, hostOps0, List.flatten_cons, List.flatten_nil, List.append_nil]
  after_results
  rfl

/-- What the launch finds in a constant matrix. -/
theorem V_main_cst_7 : V m c main_cst_7 = (fun i => FloatOps.ofBits .f32 (lit7 (S128x64.rowMajor i)) : FVec Ideal S128x64 .f32) := by
  simp only [V, V0, hostOps0, List.flatten_cons, List.flatten_nil, List.append_nil]
  after_results
  rfl

/-- What the launch finds in the matrix of the pairs of columns of one field: the identity, each entry spread over a square. -/
theorem V_main_v1 : V m c main_v1 = (shapeCast S416x416 (broadcastInDim S26x16x26x16 ![0, 2] bcast_S26x26_S26x16x26x16_0_2
    (fun i => FloatOps.ofBits .f32 (lit0 (S26x26.rowMajor i)) : FVec Ideal S26x26 .f32) : FVec Ideal S26x16x26x16 .f32)
    shapeCasts_S26x16x26x16_S416x416 : FVec Ideal S416x416 .f32) := by
  simp only [V, V0, hostOps0, List.flatten_cons, List.flatten_nil, List.append_nil]
  after_results
  rfl

/-- What the launch finds in the row of ones. -/
theorem V_main_cst_4 : V m c main_cst_4 = (constant S1x26 .f32 0x3F800000#32 : FVec Ideal S1x26 .f32) := by
  simp only [V, V0, hostOps0, List.flatten_cons, List.flatten_nil, List.append_nil]
  after_results

/-- Block 0 is its whole array. -/
theorem whole0 : (iblk m c 0 t : Vec Ideal S2x3x26x26 .f32) = V m c main_arg1 := by
  funext j
  blk_ext [iblk, idx t]

/-- Block 1 is its whole array. -/
theorem whole1 : (iblk m c 1 t : Vec Ideal S26x1 .f32) = V m c main_v4 := by
  funext j
  blk_ext [iblk, idx t]

/-- Block 2 is its whole array. -/
theorem whole2 : (iblk m c 2 t : Vec Ideal S26x1 .f32) = V m c main_v5 := by
  funext j
  blk_ext [iblk, idx t]

/-- Block 3 is its whole array. -/
theorem whole3 : (iblk m c 3 t : Vec Ideal S2x26x32 .f32) = V m c main_v6 := by
  funext j
  blk_ext [iblk, idx t]

/-- Block 4 is its whole array. -/
theorem whole4 : (iblk m c 4 t : Vec Ideal S2x26x32 .f32) = V m c main_v7 := by
  funext j
  blk_ext [iblk, idx t]

/-- Block 5 is its whole array. -/
theorem whole5 : (iblk m c 5 t : Vec Ideal S2x26x32 .f32) = V m c main_v8 := by
  funext j
  blk_ext [iblk, idx t]

/-- Block 6 is its whole array. -/
theorem whole6 : (iblk m c 6 t : Vec Ideal S2x26x32 .f32) = V m c main_v9 := by
  funext j
  blk_ext [iblk, idx t]

/-- Block 7 is its whole array. -/
theorem whole7 : (iblk m c 7 t : Vec Ideal S1x2x1x32x16 .f32) = V m c main_arg2 := by
  funext j
  blk_ext [iblk, idx t]

/-- Block 8 is its whole array. -/
theorem whole8 : (iblk m c 8 t : Vec Ideal S2x1x26x16 .f32) = V m c main_arg3 := by
  funext j
  blk_ext [iblk, idx t]

/-- Block 9 is its whole array. -/
theorem whole9 : (iblk m c 9 t : Vec Ideal S416x26 .f32) = V m c main_arg10 := by
  funext j
  blk_ext [iblk, idx t]

/-- Block 10 is its whole array. -/
theorem whole10 : (iblk m c 10 t : Vec Ideal S1x26 .f32) = V m c main_v10 := by
  funext j
  blk_ext [iblk, idx t]

/-- Block 11 is its whole array. -/
theorem whole11 : (iblk m c 11 t : Vec Ideal S416x26 .f32) = V m c main_cst_0 := by
  funext j
  blk_ext [iblk, idx t]

/-- Block 12 is its whole array. -/
theorem whole12 : (iblk m c 12 t : Vec Ideal S26x416 .f32) = V m c main_cst_1 := by
  funext j
  blk_ext [iblk, idx t]

/-- Block 13 is its whole array. -/
theorem whole13 : (iblk m c 13 t : Vec Ideal S416x16 .f32) = V m c main_cst_2 := by
  funext j
  blk_ext [iblk, idx t]

/-- Block 14 is its whole array. -/
theorem whole14 : (iblk m c 14 t : Vec Ideal S16x416 .f32) = V m c main_cst_3 := by
  funext j
  blk_ext [iblk, idx t]

/-- Block 15 is its whole array. -/
theorem whole15 : (iblk m c 15 t : Vec Ideal S416x416 .f32) = V m c main_v1 := by
  funext j
  blk_ext [iblk, idx t]

/-- Block 16 is its whole array. -/
theorem whole16 : (iblk m c 16 t : Vec Ideal S26x26 .f32) = V m c main_cst := by
  funext j
  blk_ext [iblk, idx t]

/-- Block 19 is its whole array. -/
theorem whole19 : (iblk m c 19 t : Vec Ideal S128x832 .f32) = V m c main_cst_5 := by
  funext j
  blk_ext [iblk, idx t]

/-- Block 20 is its whole array. -/
theorem whole20 : (iblk m c 20 t : Vec Ideal S832x64 .f32) = V m c main_cst_6 := by
  funext j
  blk_ext [iblk, idx t]

/-- Block 21 is its whole array. -/
theorem whole21 : (iblk m c 21 t : Vec Ideal S128x64 .f32) = V m c main_cst_7 := by
  funext j
  blk_ext [iblk, idx t]

/-- Block 17 is its whole array. -/
theorem whole17 : (iblk m c 17 t : Vec Ideal S1x26 .f32) = V m c main_cst_4 := by
  funext j
  blk_ext [iblk, idx t]

/-- Block 11 at a row and a column. -/
theorem blk11 (r : Fin 416) (n : Fin 26) : (iblk m c 11 t : Vec Ideal S416x26 .f32) (ix2 r n) = if fld r = n then (1 : EReal) else 0 := by
  rw [whole11, V_main_cst_0]
  exact Tables.cst1_at r n

/-- Block 12 at a row and a column. -/
theorem blk12 (r : Fin 26) (n : Fin 416) : (iblk m c 12 t : Vec Ideal S26x416 .f32) (ix2 r n) = if r = fld n then (1 : EReal) else 0 := by
  rw [whole12, V_main_cst_1]
  exact Tables.cst2_at r n

/-- Block 13 at a row and a column. -/
theorem blk13 (r : Fin 416) (n : Fin 16) : (iblk m c 13 t : Vec Ideal S416x16 .f32) (ix2 r n) = if dim r = n then (1 : EReal) else 0 := by
  rw [whole13, V_main_cst_2]
  exact Tables.cst3_at r n

/-- Block 14 at a row and a column. -/
theorem blk14 (r : Fin 16) (n : Fin 416) : (iblk m c 14 t : Vec Ideal S16x416 .f32) (ix2 r n) = if r = dim n then (1 : EReal) else 0 := by
  rw [whole14, V_main_cst_3]
  exact Tables.cst4_at r n

/-- Block 15 at a row and a column. -/
theorem blk15 (r : Fin 416) (n : Fin 416) : (iblk m c 15 t : Vec Ideal S416x416 .f32) (ix2 r n) = if fld r = fld n then (1 : EReal) else 0 := by
  rw [whole15, V_main_v1]
  pointwise
  refine (Tables.cst0_at _ _).trans ?_
  simp only [Fin.ext_iff, fld]

/-- Block 16 at a row and a column. -/
theorem blk16 (r : Fin 26) (n : Fin 26) : (iblk m c 16 t : Vec Ideal S26x26 .f32) (ix2 r n) = if r = n then (1 : EReal) else 0 := by
  rw [whole16, V_main_cst]
  exact Tables.cst0_at r n

/-- Block 19 at a row and a column. -/
theorem blk19 (r : Fin 128) (n : Fin 832) : (iblk m c 19 t : Vec Ideal S128x832 .f32) (ix2 r n) = ((Batch.TT r n : ℝ) : EReal) := by
  rw [whole19, V_main_cst_5]
  exact Tables.cst5_at r n

/-- Block 20 at a row and a column. -/
theorem blk20 (r : Fin 832) (n : Fin 64) : (iblk m c 20 t : Vec Ideal S832x64 .f32) (ix2 r n) = ((Batch.SS r n : ℝ) : EReal) := by
  rw [whole20, V_main_cst_6]
  exact Tables.cst6_at r n

/-- Block 21 at a row and a column. -/
theorem blk21 (r : Fin 128) (n : Fin 64) : (iblk m c 21 t : Vec Ideal S128x64 .f32) (ix2 r n) = ((Batch.DD r n : ℝ) : EReal) := by
  rw [whole21, V_main_cst_7]
  exact Tables.cst7_at r n

/-- The row of ones. -/
theorem blk17 (n : Fin 26) : (iblk m c 17 t : Vec Ideal S1x26 .f32) (ix2 0 n) = (1 : EReal) := by
  rw [whole17, V_main_cst_4]
  exact Tables.one_word

/-- The constant blocks hold what they should. -/
theorem consts : Graph.Consts (iblk m c 11 t) (iblk m c 12 t) (iblk m c 13 t) (iblk m c 14 t) (iblk m c 15 t) (iblk m c 16 t) (iblk m c 17 t) :=
  ⟨blk11 m c t, blk12 m c t, blk13 m c t, blk14 m c t, blk15 m c t, blk16 m c t, blk17 m c t⟩

variable {m c}
variable {p : Fin 2 → Par} {X : Fin 16384 → Fin 26 → Fin 16 → ℝ} (A : Args m c p X)
include A

/-- Block 1 at an index. -/
theorem blk1 (g : Fin 2) (n : Fin 26) : (iblk m c 1 t : Vec Ideal S26x1 .f32) (ix2 n 0) = (((p g).lw n : ℝ) : EReal) := by
  rw [whole1, V_main_v4]
  pointwise [A.lw g]

/-- Block 2 at an index. -/
theorem blk2 (g : Fin 2) (n : Fin 26) : (iblk m c 2 t : Vec Ideal S26x1 .f32) (ix2 n 0) = (((p g).lb n : ℝ) : EReal) := by
  rw [whole2, V_main_v5]
  pointwise [A.lb g]

/-- Block 10 at an index. -/
theorem blk10 (g : Fin 2) (n : Fin 26) : (iblk m c 10 t : Vec Ideal S1x26 .f32) (ix2 0 n) = (((p g).gg n : ℝ) : EReal) := by
  rw [whole10, V_main_v10]
  pointwise [A.gg g]

/-- Block 9 at an index. -/
theorem blk9 (g : Fin 2) (k : Fin 416) (n : Fin 26) : (iblk m c 9 t : Vec Ideal S416x26 .f32) (ix2 k n) = (((p g).gw k n : ℝ) : EReal) := by
  rw [whole9, V_main_arg10]
  exact A.gw g k n

/-- Block 3 at an index. -/
theorem blk3 (g : Fin 2) (n : Fin 26) (k : Fin 32) : (iblk m c 3 t : Vec Ideal S2x26x32 .f32) (ix3 g n k) = (((p g).bw n k : ℝ) : EReal) := by
  rw [whole3, V_main_v6]
  pointwise
  exact A.bw g n k _ (by simp only)

/-- Block 4 at an index. -/
theorem blk4 (g : Fin 2) (n : Fin 26) (k : Fin 32) : (iblk m c 4 t : Vec Ideal S2x26x32 .f32) (ix3 g n k) = (((p g).bb n k : ℝ) : EReal) := by
  rw [whole4, V_main_v7]
  pointwise
  exact A.bb g n k _ (by simp only)

/-- Block 5 at an index. -/
theorem blk5 (g : Fin 2) (n : Fin 26) (k : Fin 32) : (iblk m c 5 t : Vec Ideal S2x26x32 .f32) (ix3 g n k) = (((p g).rm n k : ℝ) : EReal) := by
  rw [whole5, V_main_v8]
  pointwise
  exact A.rm g n k _ (by simp only)

/-- Block 6 at an index. -/
theorem blk6 (g : Fin 2) (n : Fin 26) (k : Fin 32) : (iblk m c 6 t : Vec Ideal S2x26x32 .f32) (ix3 g n k) = (((p g).rv n k : ℝ) : EReal) := by
  rw [whole6, V_main_v9]
  pointwise
  exact A.rv g n k _ (by simp only)

/-- Block 18 at an index. -/
theorem blk18 (b : Fin 4096) (r : Fin 416) (B : Fin 16384) (hB : B.val = t.val * 4096 + b.val) :
    (iblk m c 18 t : Vec Ideal S4096x416 .bf16) (ix2 b r) = ((X B (fld r) (dim r) : ℝ) : EReal) := by
  have e : (iblk m c 18 t : Vec Ideal S4096x416 .bf16) (ix2 b r) = (V m c main_v3 : Vec Ideal S16384x416 .bf16) (ix2 B r) := by
    blk_ext [iblk, idx t]
  rw [e, V_main_v3]
  have h := A.x B (fld r) (dim r)
  pointwise
  rw [← h]
  blk_ext [fld, dim]

/-- The loads of graph 0. -/
theorem loads0 : Graph.Loads (p 0) (View.ld (iblk m c 0 t) (Rect.unit ![0, 0, 0, 0] ![1, 3, 26, 26] inb_S2x3x26x26_S1x3x26x26_0_0_0_0))
    (iblk m c 1 t) (iblk m c 2 t)
    (View.ld (iblk m c 3 t) (Rect.unit ![0, 0, 0] ![1, 26, 32] inb_S2x26x32_S1x26x32_0_0_0))
    (View.ld (iblk m c 6 t) (Rect.unit ![0, 0, 0] ![1, 26, 32] inb_S2x26x32_S1x26x32_0_0_0))
    (View.ld (iblk m c 4 t) (Rect.unit ![0, 0, 0] ![1, 26, 32] inb_S2x26x32_S1x26x32_0_0_0))
    (View.ld (iblk m c 5 t) (Rect.unit ![0, 0, 0] ![1, 26, 32] inb_S2x26x32_S1x26x32_0_0_0))
    (View.ld (iblk m c 7 t) (Rect.unit ![0, 0, 0, 0, 0] ![1, 1, 1, 16, 16] inb_S1x2x1x32x16_S1x1x1x16x16_0_0_0_0_0))
    (View.ld (iblk m c 7 t) (Rect.unit ![0, 0, 0, 16, 0] ![1, 1, 1, 16, 16] inb_S1x2x1x32x16_S1x1x1x16x16_0_0_0_16_0))
    (View.ld (iblk m c 8 t) (Rect.unit ![0, 0, 0, 0] ![1, 1, 26, 16] inb_S2x1x26x16_S1x1x26x16_0_0_0_0))
    (iblk m c 9 t) (iblk m c 10 t) where
  hv a i n := by
    rw [whole0, V_main_arg1]
    exact (ld_at (S := S2x3x26x26) (e := .f32) _ _ _ _ _ (ix4 0 a i n) (fun b => by fin_cases b <;> first | rfl | exact (Nat.zero_add _).symm)).trans (A.msk 0 a i n)
  hlw n := blk1 t A 0 n
  hlb n := blk2 t A 0 n
  hbw n k := (ld_at (S := S2x26x32) (e := .f32) (iblk m c 3 t) _ _ _ _ (ix3 0 n k) (fun b => by fin_cases b <;> first | rfl | exact (Nat.zero_add _).symm)).trans (blk3 t A 0 n k)
  hrv n k := (ld_at (S := S2x26x32) (e := .f32) (iblk m c 6 t) _ _ _ _ (ix3 0 n k) (fun b => by fin_cases b <;> first | rfl | exact (Nat.zero_add _).symm)).trans (blk6 t A 0 n k)
  hbb n k := (ld_at (S := S2x26x32) (e := .f32) (iblk m c 4 t) _ _ _ _ (ix3 0 n k) (fun b => by fin_cases b <;> first | rfl | exact (Nat.zero_add _).symm)).trans (blk4 t A 0 n k)
  hrm n k := (ld_at (S := S2x26x32) (e := .f32) (iblk m c 5 t) _ _ _ _ (ix3 0 n k) (fun b => by fin_cases b <;> first | rfl | exact (Nat.zero_add _).symm)).trans (blk5 t A 0 n k)
  hW1 a b := by
    rw [whole7, V_main_arg2]
    exact (ld_at (S := S1x2x1x32x16) (e := .f32) _ _ _ _ _ (ix5 0 0 0 (lo a) b) (fun b => by fin_cases b <;> first | rfl | exact (Nat.zero_add _).symm)).trans (A.W 0 (lo a) b)
  hW2 a b := by
    rw [whole7, V_main_arg2]
    exact (ld_at (S := S1x2x1x32x16) (e := .f32) _ _ _ _ _ (ix5 0 0 0 (hi a) b) (fun b => by fin_cases b <;> first | rfl | exact (Nat.zero_add _).symm)).trans (A.W 0 (hi a) b)
  hgb n d := by
    rw [whole8, V_main_arg3]
    exact (ld_at (S := S2x1x26x16) (e := .f32) _ _ _ _ _ (ix4 0 0 n d) (fun b => by fin_cases b <;> first | rfl | exact (Nat.zero_add _).symm)).trans (A.gb 0 n d)
  hgw k n := blk9 t A 0 k n
  hgg n := blk10 t A 0 n

/-- The loads of graph 1. -/
theorem loads1 : Graph.Loads (p 1) (View.ld (iblk m c 0 t) (Rect.unit ![1, 0, 0, 0] ![1, 3, 26, 26] inb_S2x3x26x26_S1x3x26x26_1_0_0_0))
    (iblk m c 1 t) (iblk m c 2 t)
    (View.ld (iblk m c 3 t) (Rect.unit ![1, 0, 0] ![1, 26, 32] inb_S2x26x32_S1x26x32_1_0_0))
    (View.ld (iblk m c 6 t) (Rect.unit ![1, 0, 0] ![1, 26, 32] inb_S2x26x32_S1x26x32_1_0_0))
    (View.ld (iblk m c 4 t) (Rect.unit ![1, 0, 0] ![1, 26, 32] inb_S2x26x32_S1x26x32_1_0_0))
    (View.ld (iblk m c 5 t) (Rect.unit ![1, 0, 0] ![1, 26, 32] inb_S2x26x32_S1x26x32_1_0_0))
    (View.ld (iblk m c 7 t) (Rect.unit ![0, 1, 0, 0, 0] ![1, 1, 1, 16, 16] inb_S1x2x1x32x16_S1x1x1x16x16_0_1_0_0_0))
    (View.ld (iblk m c 7 t) (Rect.unit ![0, 1, 0, 16, 0] ![1, 1, 1, 16, 16] inb_S1x2x1x32x16_S1x1x1x16x16_0_1_0_16_0))
    (View.ld (iblk m c 8 t) (Rect.unit ![1, 0, 0, 0] ![1, 1, 26, 16] inb_S2x1x26x16_S1x1x26x16_1_0_0_0))
    (iblk m c 9 t) (iblk m c 10 t) where
  hv a i n := by
    rw [whole0, V_main_arg1]
    exact (ld_at (S := S2x3x26x26) (e := .f32) _ _ _ _ _ (ix4 1 a i n) (fun b => by fin_cases b <;> first | rfl | exact (Nat.zero_add _).symm)).trans (A.msk 1 a i n)
  hlw n := blk1 t A 1 n
  hlb n := blk2 t A 1 n
  hbw n k := (ld_at (S := S2x26x32) (e := .f32) (iblk m c 3 t) _ _ _ _ (ix3 1 n k) (fun b => by fin_cases b <;> first | rfl | exact (Nat.zero_add _).symm)).trans (blk3 t A 1 n k)
  hrv n k := (ld_at (S := S2x26x32) (e := .f32) (iblk m c 6 t) _ _ _ _ (ix3 1 n k) (fun b => by fin_cases b <;> first | rfl | exact (Nat.zero_add _).symm)).trans (blk6 t A 1 n k)
  hbb n k := (ld_at (S := S2x26x32) (e := .f32) (iblk m c 4 t) _ _ _ _ (ix3 1 n k) (fun b => by fin_cases b <;> first | rfl | exact (Nat.zero_add _).symm)).trans (blk4 t A 1 n k)
  hrm n k := (ld_at (S := S2x26x32) (e := .f32) (iblk m c 5 t) _ _ _ _ (ix3 1 n k) (fun b => by fin_cases b <;> first | rfl | exact (Nat.zero_add _).symm)).trans (blk5 t A 1 n k)
  hW1 a b := by
    rw [whole7, V_main_arg2]
    exact (ld_at (S := S1x2x1x32x16) (e := .f32) _ _ _ _ _ (ix5 0 1 0 (lo a) b) (fun b => by fin_cases b <;> first | rfl | exact (Nat.zero_add _).symm)).trans (A.W 1 (lo a) b)
  hW2 a b := by
    rw [whole7, V_main_arg2]
    exact (ld_at (S := S1x2x1x32x16) (e := .f32) _ _ _ _ _ (ix5 0 1 0 (hi a) b) (fun b => by fin_cases b <;> first | rfl | exact (Nat.zero_add _).symm)).trans (A.W 1 (hi a) b)
  hgb n d := by
    rw [whole8, V_main_arg3]
    exact (ld_at (S := S2x1x26x16) (e := .f32) _ _ _ _ _ (ix4 1 0 n d) (fun b => by fin_cases b <;> first | rfl | exact (Nat.zero_add _).symm)).trans (A.gb 1 n d)
  hgw k n := blk9 t A 1 k n
  hgg n := blk10 t A 1 n

end Cert.Blocks

end
-- ==== Proof.Scratch.lean ====
/- The two scratch arrays after each grid point: the folded matrix and the folded offset of both graphs. The first point
   writes them, the later points keep them. -/
module

public import proofs.«01_k».proof.Proof.Blocks
public import Idealize.ShloMosaic.Lib.Pipeline.ReadBack

@[expose] public section

set_option maxRecDepth 16384

noncomputable section

namespace Cert.Scratch

open Idealize.ShloMosaic Idealize.ShloMosaic.TcCoe Idealize.SL.Sem
open Idealize.ShloMosaic.Pipeline (Dat)
open Cert.KernelIdeal Cert.KernelIdeal.Gen
open Cert.Lift Cert.Spec Cert.Batch

section Pieces

variable {S : Shape} {e : EltTy}

/-- An element under the last write is the write's. -/
theorem canon_hit (off size : Fin S.rank → ℕ) (inb : ∀ a, off a + size a ≤ S.size a)
    (w : (Rect.unit off size inb).shape.Idx → Elt Ideal e) (L : List (View.Piece (Elt Ideal) S e))
    (x : (Rect.unit off size inb).shape.Idx) (y : S.Idx) (h : ∀ a, (y a).val = off a + (x a).val) :
    View.canon (⟨Rect.unit off size inb, w⟩ :: L) y = w x := by
  have hy : y = (Rect.unit off size inb).emb x := funext fun a => Fin.ext (by
    rw [h a]
    show _ = off a + 1 * (x a).val
    rw [Nat.one_mul])
  rw [hy, View.canon_cons_emb]

/-- An element off the last write is what the earlier writes left. -/
theorem canon_miss (off size : Fin S.rank → ℕ) (inb : ∀ a, off a + size a ≤ S.size a)
    (w : (Rect.unit off size inb).shape.Idx → Elt Ideal e) (L : List (View.Piece (Elt Ideal) S e))
    (y : S.Idx) (a : Fin S.rank) (h : (y a).val < off a ∨ off a + size a ≤ (y a).val) :
    View.canon (⟨Rect.unit off size inb, w⟩ :: L) y = View.canon L y :=
  View.canon_cons_of_not_mem _ _ fun hm => by
    have := (Rect.mem_set_unit (off := off) (size := size) (inb := inb) (i := y)).mp hm a
    omega

/-- The whole array read back is what was written. -/
theorem readCov_whole {sig : RefSig} {κ : Kind} {sp : Space} (v : View sig κ sp S e) (L : List (View.Piece (Elt Ideal) S e))
    (off : Fin S.rank → ℕ) (inb : ∀ a, off a + S.size a ≤ S.size a) (y : S.Idx) (h : ∀ a, off a = 0) :
    v.readCov L (Rect.unit off S.size inb).toLoadRect y = View.canon L y := by
  rw [View.readCov_eq_canon']
  refine congrArg (View.canon L) (funext fun a => Fin.ext ?_)
  show off a + 1 * (y a).val = _
  rw [h a, Nat.one_mul, Nat.zero_add]

end Pieces

variable (p : Fin 2 → Par)

/-- The matrix's six writes. -/
theorem canonC {i0 i1 i2 i3 i4 i5} (w0 w3 : FVec Ideal S416x38 .bf16) (w1 w4 : FVec Ideal S416x26 .bf16) (w2 w5 : FVec Ideal S416x416 .bf16)
    (h0 : ∀ r n, w0 (ix2 r n) = ((0 : ℝ) : EReal)) (h3 : ∀ r n, w3 (ix2 r n) = ((0 : ℝ) : EReal))
    (h1 : ∀ r n, w1 (ix2 r n) = ((Cg (p 1) r n : ℝ) : EReal)) (h4 : ∀ r n, w4 (ix2 r n) = ((Cg (p 0) r n : ℝ) : EReal))
    (h2 : ∀ r n, w2 (ix2 r n) = ((Ct (p 1) r n : ℝ) : EReal)) (h5 : ∀ r n, w5 (ix2 r n) = ((Ct (p 0) r n : ℝ) : EReal))
    (r : Fin 416) (c : Fin 960) :
    (View.canon (Val := Elt Ideal) (s := S416x960) (e := .bf16) [⟨Rect.unit ![0, 922] ![416, 38] i0, w0⟩, ⟨Rect.unit ![0, 896] ![416, 26] i1, w1⟩, ⟨Rect.unit ![0, 416] ![416, 416] i2, w2⟩,
      ⟨Rect.unit ![0, 858] ![416, 38] i3, w3⟩, ⟨Rect.unit ![0, 832] ![416, 26] i4, w4⟩, ⟨Rect.unit ![0, 0] ![416, 416] i5, w5⟩]) (ix2 r c) = ((Cmat p r c : ℝ) : EReal) := by
  have hc := c.isLt
  have hit : ∀ (o n : ℕ) (hn : o ≤ c.val ∧ c.val < o + n) (a : Fin 2), ((ix2 r c : S416x960.Idx) a).val
      = (![0, o] : Fin 2 → ℕ) a + ((ix2 r (⟨c.val - o, by omega⟩ : Fin n)) a).val := fun o n hn a => by
    fin_cases a
    · exact (Nat.zero_add _).symm
    · show c.val = o + (c.val - o); omega
  by_cases k0 : 922 ≤ c.val
  · refine (canon_hit (S := S416x960) (e := .bf16) _ _ i0 w0 _ (ix2 r ⟨c.val - 922, by omega⟩) _ (hit 922 38 (by omega))).trans ((h0 _ _).trans ?_)
    rw [Cmat, dif_neg (by omega), dif_neg (by omega)]
  rw [canon_miss (S := S416x960) (e := .bf16) _ _ i0 w0 _ _ 1 (Or.inl (by show c.val < 922; omega))]
  by_cases k1 : 896 ≤ c.val
  · refine (canon_hit (S := S416x960) (e := .bf16) _ _ i1 w1 _ (ix2 r ⟨c.val - 896, by omega⟩) _ (hit 896 26 (by omega))).trans ((h1 _ _).trans ?_)
    rw [Cmat, dif_neg (by omega), dif_pos (by omega)]
    congr 2
    · exact congrArg p (Fin.ext (by show 1 = (c.val - 832) / 64; omega))
    · exact Fin.ext (by show c.val - 896 = (c.val - 832) % 64; omega)
  rw [canon_miss (S := S416x960) (e := .bf16) _ _ i1 w1 _ _ 1 (Or.inl (by show c.val < 896; omega))]
  by_cases k2 : 416 ≤ c.val ∧ c.val < 832
  · refine (canon_hit (S := S416x960) (e := .bf16) _ _ i2 w2 _ (ix2 r ⟨c.val - 416, by omega⟩) _ (hit 416 416 (by omega))).trans ((h2 _ _).trans ?_)
    rw [Cmat, dif_pos (by omega)]
    congr 2
    · exact congrArg p (Fin.ext (by show 1 = c.val / 416; omega))
    · exact Fin.ext (by show c.val - 416 = c.val % 416; omega)
  rw [canon_miss (S := S416x960) (e := .bf16) _ _ i2 w2 _ _ 1 (by show c.val < 416 ∨ 416 + 416 ≤ c.val; omega)]
  by_cases k3 : 858 ≤ c.val
  · refine (canon_hit (S := S416x960) (e := .bf16) _ _ i3 w3 _ (ix2 r ⟨c.val - 858, by omega⟩) _ (hit 858 38 (by omega))).trans ((h3 _ _).trans ?_)
    rw [Cmat, dif_neg (by omega), dif_neg (by omega)]
  rw [canon_miss (S := S416x960) (e := .bf16) _ _ i3 w3 _ _ 1 (Or.inl (by show c.val < 858; omega))]
  by_cases k4 : 832 ≤ c.val
  · refine (canon_hit (S := S416x960) (e := .bf16) _ _ i4 w4 _ (ix2 r ⟨c.val - 832, by omega⟩) _ (hit 832 26 (by omega))).trans ((h4 _ _).trans ?_)
    rw [Cmat, dif_neg (by omega), dif_pos (by omega)]
    congr 2
    · exact congrArg p (Fin.ext (by show 0 = (c.val - 832) / 64; omega))
    · exact Fin.ext (by show c.val - 832 = (c.val - 832) % 64; omega)
  rw [canon_miss (S := S416x960) (e := .bf16) _ _ i4 w4 _ _ 1 (Or.inl (by show c.val < 832; omega))]
  refine (canon_hit (S := S416x960) (e := .bf16) _ _ i5 w5 _ (ix2 r ⟨c.val - 0, by omega⟩) _ (hit 0 416 (by omega))).trans ((h5 _ _).trans ?_)
  rw [Cmat, dif_pos (by omega)]
  congr 2
  · exact congrArg p (Fin.ext (by show 0 = c.val / 416; omega))
  · exact Fin.ext (by show c.val - 0 = c.val % 416; omega)

/-- The offset's five writes: the whole row of zeros first. -/
theorem canonE {i0 i1 i2 i3 i4} (w0 w2 : FVec Ideal S1x26 .f32) (w1 w3 : FVec Ideal S1x416 .f32) (w4 : FVec Ideal S1x960 .f32)
    (h0 : ∀ n, w0 (ix2 0 n) = ((eg (p 1) n : ℝ) : EReal)) (h2 : ∀ n, w2 (ix2 0 n) = ((eg (p 0) n : ℝ) : EReal))
    (h1 : ∀ n, w1 (ix2 0 n) = ((ev (p 1) n : ℝ) : EReal)) (h3 : ∀ n, w3 (ix2 0 n) = ((ev (p 0) n : ℝ) : EReal))
    (h4 : ∀ n, w4 (ix2 0 n) = ((0 : ℝ) : EReal)) (c : Fin 960) :
    (View.canon (Val := Elt Ideal) (s := S1x960) (e := .f32) [⟨Rect.unit ![0, 896] ![1, 26] i0, w0⟩, ⟨Rect.unit ![0, 416] ![1, 416] i1, w1⟩, ⟨Rect.unit ![0, 832] ![1, 26] i2, w2⟩,
      ⟨Rect.unit ![0, 0] ![1, 416] i3, w3⟩, ⟨Rect.unit ![0, 0] ![1, 960] i4, w4⟩]) (ix2 0 c) = ((evec p c : ℝ) : EReal) := by
  have hc := c.isLt
  have hit : ∀ (o n : ℕ) (hn : o ≤ c.val ∧ c.val < o + n) (a : Fin 2), ((ix2 (0 : Fin 1) c : S1x960.Idx) a).val
      = (![0, o] : Fin 2 → ℕ) a + ((ix2 (0 : Fin 1) (⟨c.val - o, by omega⟩ : Fin n)) a).val := fun o n hn a => by
    fin_cases a
    · exact (Nat.zero_add _).symm
    · show c.val = o + (c.val - o); omega
  by_cases k0 : 896 ≤ c.val ∧ c.val < 922
  · refine (canon_hit (S := S1x960) (e := .f32) _ _ i0 w0 _ (ix2 0 ⟨c.val - 896, by omega⟩) _ (hit 896 26 (by omega))).trans ((h0 _).trans ?_)
    rw [evec, dif_neg (by omega), dif_pos (by omega)]
    congr 2
    · exact congrArg p (Fin.ext (by show 1 = (c.val - 832) / 64; omega))
    · exact Fin.ext (by show c.val - 896 = (c.val - 832) % 64; omega)
  rw [canon_miss (S := S1x960) (e := .f32) _ _ i0 w0 _ _ 1 (by show c.val < 896 ∨ 896 + 26 ≤ c.val; omega)]
  by_cases k1 : 416 ≤ c.val ∧ c.val < 832
  · refine (canon_hit (S := S1x960) (e := .f32) _ _ i1 w1 _ (ix2 0 ⟨c.val - 416, by omega⟩) _ (hit 416 416 (by omega))).trans ((h1 _).trans ?_)
    rw [evec, dif_pos (by omega)]
    congr 2
    · exact congrArg p (Fin.ext (by show 1 = c.val / 416; omega))
    · exact Fin.ext (by show c.val - 416 = c.val % 416; omega)
  rw [canon_miss (S := S1x960) (e := .f32) _ _ i1 w1 _ _ 1 (by show c.val < 416 ∨ 416 + 416 ≤ c.val; omega)]
  by_cases k2 : 832 ≤ c.val ∧ c.val < 858
  · refine (canon_hit (S := S1x960) (e := .f32) _ _ i2 w2 _ (ix2 0 ⟨c.val - 832, by omega⟩) _ (hit 832 26 (by omega))).trans ((h2 _).trans ?_)
    rw [evec, dif_neg (by omega), dif_pos (by omega)]
    congr 2
    · exact congrArg p (Fin.ext (by show 0 = (c.val - 832) / 64; omega))
    · exact Fin.ext (by show c.val - 832 = (c.val - 832) % 64; omega)
  rw [canon_miss (S := S1x960) (e := .f32) _ _ i2 w2 _ _ 1 (by show c.val < 832 ∨ 832 + 26 ≤ c.val; omega)]
  by_cases k3 : c.val < 416
  · refine (canon_hit (S := S1x960) (e := .f32) _ _ i3 w3 _ (ix2 0 ⟨c.val - 0, by omega⟩) _ (hit 0 416 (by omega))).trans ((h3 _).trans ?_)
    rw [evec, dif_pos (by omega)]
    congr 2
    · exact congrArg p (Fin.ext (by show 0 = c.val / 416; omega))
    · exact Fin.ext (by show c.val - 0 = c.val % 416; omega)
  rw [canon_miss (S := S1x960) (e := .f32) _ _ i3 w3 _ _ 1 (Or.inr (by show 0 + 416 ≤ c.val; omega))]
  refine (canon_hit (S := S1x960) (e := .f32) _ _ i4 w4 _ (ix2 0 ⟨c.val - 0, by omega⟩) _ (hit 0 960 (by omega))).trans ((h4 _).trans ?_)
  rw [evec, dif_neg (by omega), dif_neg (by omega)]

variable {m : (ℓ : Loc nD τ sig) → Buf (Elt Ideal) ℓ} {c : Dev nD} {p : Fin 2 → Par} {X : Fin 16384 → Fin 26 → Fin 16 → ℝ}
  (A : Blocks.Args m c p X) (t : Fin cfg0.N)
include A

/-- The matrix after the first point. -/
theorem cA (h0 : t.val % 4 = 0) (r : Fin 416) (k : Fin 960) :
    (outsAt0 m c t.val t.isLt).2.1 (ix2 r k) = ((Cmat p r k : ℝ) : EReal) := by
  have K := Blocks.consts m c t
  have L0 := Blocks.loads0 t A
  have L1 := Blocks.loads1 t A
  rw [outsAt0_A m c t h0]
  frame_out
  exact canonC p _ _ _ _ _ _ Graph.z1_at Graph.z0_at (Graph.Cg1_at K L1) (Graph.Cg0_at K L0) (Graph.C1_at K L1) (Graph.C0_at K L0) r k

/-- The offset after the first point. -/
theorem eA (h0 : t.val % 4 = 0) (k : Fin 960) :
    (outsAt0 m c t.val t.isLt).2.2 (ix2 0 k) = ((evec p k : ℝ) : EReal) := by
  have K := Blocks.consts m c t
  have L0 := Blocks.loads0 t A
  have L1 := Blocks.loads1 t A
  rw [outsAt0_A m c t h0]
  frame_out
  exact canonE p _ _ _ _ _ (Graph.eg1_at K L1) (Graph.eg0_at K L0) (Graph.e1_at K L1) (Graph.e0_at K L0) Graph.ze_at k

omit A in
/-- A later point keeps the matrix. -/
theorem cB (h0 : ¬ t.val % 4 = 0) (j : S416x960.Idx) :
    (outsAt0 m c t.val t.isLt).2.1 j = (outsAt0 m c (t.val - 1) (by omega)).2.1 j := by
  rw [outsAt0_B m c t h0]
  rfl

omit A in
/-- A later point keeps the offset. -/
theorem eB (h0 : ¬ t.val % 4 = 0) (j : S1x960.Idx) :
    (outsAt0 m c t.val t.isLt).2.2 j = (outsAt0 m c (t.val - 1) (by omega)).2.2 j := by
  rw [outsAt0_B m c t h0]
  rfl

/-- Every point leaves the folded matrix. -/
theorem cAll : ∀ (n : ℕ) (hn : n < cfg0.N) (r : Fin 416) (k : Fin 960), (outsAt0 m c n hn).2.1 (ix2 r k) = ((Cmat p r k : ℝ) : EReal)
  | n, hn, r, k => by
    by_cases h0 : n % 4 = 0
    · exact cA A ⟨n, hn⟩ h0 r k
    · exact (cB ⟨n, hn⟩ h0 _).trans (cAll (n - 1) (by omega) r k)
  termination_by n => n
  decreasing_by omega

/-- Every point leaves the folded offset. -/
theorem eAll : ∀ (n : ℕ) (hn : n < cfg0.N) (k : Fin 960), (outsAt0 m c n hn).2.2 (ix2 0 k) = ((evec p k : ℝ) : EReal)
  | n, hn, k => by
    by_cases h0 : n % 4 = 0
    · exact eA A ⟨n, hn⟩ h0 k
    · exact (eB ⟨n, hn⟩ h0 _).trans (eAll (n - 1) (by omega) k)
  termination_by n => n
  decreasing_by omega

omit A in
/-- There are four points. -/
theorem point_lt : t.val < 4 := lt_of_lt_of_eq t.isLt (by decide +kernel)

/-- The output block of the first point. -/
theorem oA (h0 : t.val % 4 = 0) (b : Fin 4096) (o : Fin 32) (g : Fin 2) (d : Fin 16) (ho : o.val = g.val * 16 + d.val) :
    (outsAt0 m c t.val t.isLt).1 (ix2 b o)
      = ((res (p g) (X ⟨t.val * 4096 + b.val, by have := point_lt t; have := b.isLt; omega⟩) d : ℝ) : EReal) := by
  have K := Blocks.consts m c t
  have L0 := Blocks.loads0 t A
  have L1 := Blocks.loads1 t A
  rw [outsAt0_A m c t h0]
  frame_out
  refine out_at p _ _ _ _ _ _ (fun b => X ⟨t.val * 4096 + b.val, by have := point_lt t; have := b.isLt; omega⟩)
    (fun b r => Blocks.blk18 t A b r _ rfl) (fun r k => ?_) (fun k => ?_) (Blocks.blk19 m c t) (Blocks.blk20 m c t) (Blocks.blk21 m c t) b g d o ho
  · refine (readCov_whole (S := S416x960) (e := .bf16) _ _ _ _ _ (fun a => by fin_cases a <;> rfl)).trans ?_
    exact canonC p _ _ _ _ _ _ Graph.z1_at Graph.z0_at (Graph.Cg1_at K L1) (Graph.Cg0_at K L0) (Graph.C1_at K L1) (Graph.C0_at K L0) r k
  · refine (readCov_whole (S := S1x960) (e := .f32) _ _ _ _ _ (fun a => by fin_cases a <;> rfl)).trans ?_
    exact canonE p _ _ _ _ _ (Graph.eg1_at K L1) (Graph.eg0_at K L0) (Graph.e1_at K L1) (Graph.e0_at K L0) Graph.ze_at k

/-- The output block of a later point. -/
theorem oB (h0 : ¬ t.val % 4 = 0) (b : Fin 4096) (o : Fin 32) (g : Fin 2) (d : Fin 16) (ho : o.val = g.val * 16 + d.val) :
    (outsAt0 m c t.val t.isLt).1 (ix2 b o)
      = ((res (p g) (X ⟨t.val * 4096 + b.val, by have := point_lt t; have := b.isLt; omega⟩) d : ℝ) : EReal) := by
  rw [outsAt0_B m c t h0]
  frame_out
  rw [read_unread_whole, read_unread_whole]
  exact out_at p _ _ _ _ _ _ (fun b => X ⟨t.val * 4096 + b.val, by have := point_lt t; have := b.isLt; omega⟩)
    (fun b r => Blocks.blk18 t A b r _ rfl) (fun r k => cAll A _ _ r k) (fun k => eAll A _ _ k) (Blocks.blk19 m c t) (Blocks.blk20 m c t)
    (Blocks.blk21 m c t) b g d o ho

/-- The output block of every point. -/
theorem out_all (b : Fin 4096) (o : Fin 32) (g : Fin 2) (d : Fin 16) (ho : o.val = g.val * 16 + d.val) :
    (outsAt0 m c t.val t.isLt).1 (ix2 b o)
      = ((res (p g) (X ⟨t.val * 4096 + b.val, by have := point_lt t; have := b.isLt; omega⟩) d : ℝ) : EReal) := by
  by_cases h0 : t.val % 4 = 0
  · exact oA A t h0 b o g d ho
  · exact oB A t h0 b o g d ho

end Cert.Scratch

end
-- ==== Proof.Final.lean ====
/- The kernel's output array: its four blocks of rows put together. -/
module

public import proofs.«01_k».proof.Proof.Scratch

@[expose] public section

set_option maxRecDepth 16384

noncomputable section

namespace Cert.Final

open Idealize.ShloMosaic Idealize.ShloMosaic.TcCoe Idealize.SL.Sem
open Idealize.ShloMosaic.Pipeline (Dat)
open Cert.KernelIdeal Cert.KernelIdeal.Gen
open Cert.Spec

/-- The output array: column `o` of row `b` is coordinate `o % 16` of graph `o / 16`. -/
def G (p : Fin 2 → Par) (X : Fin 16384 → Fin 26 → Fin 16 → ℝ) : FVec Ideal S16384x32 .f32 := fun i =>
  ((res (p ⟨(i 1).val / 16, by have := (i 1).isLt; change (i 1).val < 32 at this; omega⟩) (X (i 0)) ⟨(i 1).val % 16, by omega⟩ : ℝ) : EReal)

variable {m : (ℓ : Loc nD τ sig) → Buf (Elt Ideal) ℓ} {c : Dev nD} {p : Fin 2 → Par} {X : Fin 16384 → Fin 26 → Fin 16 → ℝ}
  (A : Blocks.Args m c p X)
include A

/-- What the kernel leaves in its output array. -/
theorem final : (dats m 0 c).arrAt 22 (cfgs 0).N = G p X := by
  refine (dats m 0 c).arrAt_eq_of_covers 22 _ (by decide +kernel) fun t _ y => ?_
  blk_simp
  rw [after0_22]
  obtain ⟨b, o, rfl⟩ : ∃ (b : Fin 4096) (o : Fin 32), y = (ix2 b o : S4096x32.Idx) := ⟨y 0, y 1, eq_ix2 (n0 := 4096) (n1 := 32) y⟩
  have hB : t.val * 4096 + b.val < 16384 := by have := Scratch.point_lt t; have := b.isLt; omega
  have e : (win0_22.blk t).view.emb (ix2 b o : S4096x32.Idx) = (ix2 (⟨t.val * 4096 + b.val, hB⟩ : Fin 16384) o : S16384x32.Idx) := by
    blk_ext [Blocks.idx t]
  exact (Scratch.out_all A t b o ⟨o.val / 16, by omega⟩ ⟨o.val % 16, by omega⟩ (by show o.val = o.val / 16 * 16 + o.val % 16; omega)).trans
    (congrArg (G p X) e).symm

end Cert.Final

namespace Cert.Final

open Idealize.ShloMosaic Idealize.ShloMosaic.TcCoe Idealize.SL.Sem
open Cert.KernelIdeal Cert.KernelIdeal.Gen
open Cert.Spec

/-- What the line after the launch leaves: the output array reshaped. -/
theorem tail (m : (ℓ : Loc nD τ sig) → Buf (Elt Ideal) ℓ) (c : Dev nD) :
    (Pipeline.afterTail₀ cfgs (dats m) 0 (V0 m) [hostOps1] c main_v12 : FVec Ideal S16384x2x16 .f32)
      = shapeCast S16384x2x16 ((dats m 0 c).arrAt 22 (cfgs 0).N : FVec Ideal S16384x32 .f32) shapeCasts_S16384x32_S16384x2x16 := by
  simp only [Pipeline.afterTail₀, hostOps1, List.flatten_cons, List.flatten_nil, List.append_nil]
  after_results
  exact congrArg (fun Z : FVec Ideal S16384x32 .f32 => shapeCast S16384x2x16 Z shapeCasts_S16384x32_S16384x2x16)
    (Pipeline.withArrays_arr spec0 (by decide) c (V0 m c) (fun w => (dats m 0 c).arrAt w (cfgs 0).N) 22)

/-- The reshaped output array at an index. -/
theorem reshaped_at (p : Fin 2 → Par) (X : Fin 16384 → Fin 26 → Fin 16 → ℝ) (b : Fin 16384) (g : Fin 2) (d : Fin 16) :
    shapeCast S16384x2x16 (G p X) shapeCasts_S16384x32_S16384x2x16 (ix3 b g d) = ((res (p g) (X b) d : ℝ) : EReal) := by
  pointwise
  show ((res (p _) (X b) _ : ℝ) : EReal) = _
  congr 2
  · exact congrArg p (Fin.ext (by show (g.val * 16 + d.val) / 16 = g.val; omega))
  · exact Fin.ext (by show (g.val * 16 + d.val) % 16 = d.val; omega)

/-- Every execution of the kernel ends with the output array reshaped in its result and its arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v12)
          = (shapeCast S16384x2x16 ((dats m 0 c).arrAt 22 (cfgs 0).N : FVec Ideal S16384x32 .f32) shapeCasts_S16384x32_S16384x2x16 : FVec Ideal S16384x2x16 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h.1 c).2 main_v12 (Pipeline.mem_restRefs_of main_v12 (by decide) (by decide))).trans (tail m c), h.2 c⟩)
    (θ_run_and (run_main m g) (unchanged m g))

end Cert.Final

end
-- ==== Proof.Reference.lean ====
/- What the reference computes: every value it forms, read at an index, is a real number of the specification. -/
module

public import proofs.«01_k».proof.Proof.Gen.ReferenceIdeal.Run
public import proofs.«01_k».proof.Proof.Spec
public import Idealize.ShloMosaic.Lib.Pipeline.ValueKit

@[expose] public section

set_option maxRecDepth 16384

noncomputable section

namespace Cert.Reference

open Idealize.ShloMosaic Idealize.ShloMosaic.TcCoe Idealize.SL.Sem Idealize.ShloMosaic.StableHlo
open Cert.ReferenceIdeal Cert.ReferenceIdeal.Gen Cert.ReferenceIdeal.Value
open Cert.Lift Cert.Spec

/-- The arguments are the reals of the specification. -/
structure Args (V0 : Valuation τ sig (Elt Ideal)) (p : Fin 2 → Par) (X : Fin 16384 → Fin 26 → Fin 16 → ℝ) : Prop where
  x : ∀ b n d, (V0 (Proc.devRef .tc main_arg0) : FVec Ideal S16384x26x16 .f32) (ix3 b n d) = ((X b n d : ℝ) : EReal)
  msk : ∀ t a m n, (V0 (Proc.devRef .tc main_arg1) : FVec Ideal S2x3x26x26 .f32) (ix4 t a m n) = (((p t).msk a m n : ℝ) : EReal)
  W : ∀ t k d, (V0 (Proc.devRef .tc main_arg2) : FVec Ideal S1x2x1x32x16 .f32) (ix5 0 t 0 k d) = (((p t).W k d : ℝ) : EReal)
  gb : ∀ t n d, (V0 (Proc.devRef .tc main_arg3) : FVec Ideal S2x1x26x16 .f32) (ix4 t 0 n d) = (((p t).gb n d : ℝ) : EReal)
  lw : ∀ t n, (V0 (Proc.devRef .tc main_arg4) : FVec Ideal S26 .f32) (ix1 n) = (((p t).lw n : ℝ) : EReal)
  lb : ∀ t n, (V0 (Proc.devRef .tc main_arg5) : FVec Ideal S26 .f32) (ix1 n) = (((p t).lb n : ℝ) : EReal)
  bw : ∀ t n k (i : Fin 1664), i.val = t.val * 832 + n.val * 32 + k.val →
    (V0 (Proc.devRef .tc main_arg6) : FVec Ideal S1664 .f32) (ix1 i) = (((p t).bw n k : ℝ) : EReal)
  bb : ∀ t n k (i : Fin 1664), i.val = t.val * 832 + n.val * 32 + k.val →
    (V0 (Proc.devRef .tc main_arg7) : FVec Ideal S1664 .f32) (ix1 i) = (((p t).bb n k : ℝ) : EReal)
  rm : ∀ t n k (i : Fin 1664), i.val = t.val * 832 + n.val * 32 + k.val →
    (V0 (Proc.devRef .tc main_arg8) : FVec Ideal S1664 .f32) (ix1 i) = (((p t).rm n k : ℝ) : EReal)
  rv : ∀ t n k (i : Fin 1664), i.val = t.val * 832 + n.val * 32 + k.val →
    (V0 (Proc.devRef .tc main_arg9) : FVec Ideal S1664 .f32) (ix1 i) = (((p t).rv n k : ℝ) : EReal)
  gw : ∀ t c n, (V0 (Proc.devRef .tc main_arg10) : FVec Ideal S416x26 .f32) (ix2 c n) = (((p t).gw c n : ℝ) : EReal)
  gg : ∀ t n, (V0 (Proc.devRef .tc main_arg11) : FVec Ideal S26 .f32) (ix1 n) = (((p t).gg n : ℝ) : EReal)

variable {V0 : Valuation τ sig (Elt Ideal)} {p : Fin 2 → Par} {X : Fin 16384 → Fin 26 → Fin 16 → ℝ} (A : Args V0 p X)

/-- A truth value as a number. -/
theorem uitofp_ite (c : Prop) [Decidable c] : (FloatOps.uitofp (F := Ideal) FTy.f32 (BitVec.ofBool (decide c))) = (if c then (1 : EReal) else 0) := by
  by_cases h : c
  · rw [if_pos h, decide_eq_true h]
    show (((1#1 : BitVec 1).toNat : ℝ) : EReal) = 1
    simp
  · rw [if_neg h, decide_eq_false h]
    show (((0#1 : BitVec 1).toNat : ℝ) : EReal) = 0
    simp

/-- The exponentials along the middle axis, shifted by the maximum. -/
theorem exp_mid (v : FVec Ideal S2x26x26 .f32) (f : Fin 2 → Fin 26 → Fin 26 → ℝ) (h : ∀ t m n, v (ix3 t m n) = ((f t m n : ℝ) : EReal))
    (t : Fin 2) (n : Fin 26) : ∃ M : ℝ, ∀ m,
    (Host.exp (subf v (broadcastInDim S2x26x26 ![0, 1, 2] bcast_S2x1x26_S2x26x26_0_1_2 (broadcastInDim S2x1x26 ![0, 2] bcast_S2x26_S2x1x26_0_2 (maximumf (broadcastInDim S2x26 ![] bcast_S_S2x26 (constant S_ .f32 0xFF800000#32)) (Host.reduce FloatOps.maximumf v (constant S_ .f32 0xFF800000#32) reducesTo_S2x26x26_S2x26_d1 h_S_))))) : FVec Ideal S2x26x26 .f32) (ix3 t m n)
      = ((Real.exp (f t m n - M) : ℝ) : EReal) := by
  obtain ⟨M, hM⟩ := fold_max_coe fun m => f t m n
  refine ⟨M, fun m => ?_⟩
  pointwise [h]
  rw [ofBits_bot, hM, max_eq_right bot_le, ← EReal.coe_sub, Ideal.exp_coe]

/-- The exponentials along the last axis, shifted by the maximum. -/
theorem exp_last (v : FVec Ideal S16384x2x26 .f32) (f : Fin 16384 → Fin 2 → Fin 26 → ℝ) (h : ∀ b t n, v (ix3 b t n) = ((f b t n : ℝ) : EReal))
    (b : Fin 16384) (t : Fin 2) : ∃ M : ℝ, ∀ n,
    (Host.exp (subf v (broadcastInDim S16384x2x26 ![0, 1, 2] bcast_S16384x2x1_S16384x2x26_0_1_2 (broadcastInDim S16384x2x1 ![0, 1] bcast_S16384x2_S16384x2x1_0_1 (maximumf (broadcastInDim S16384x2 ![] bcast_S_S16384x2 (constant S_ .f32 0xFF800000#32)) (Host.reduce FloatOps.maximumf v (constant S_ .f32 0xFF800000#32) reducesTo_S16384x2x26_S16384x2_d2 h_S_))))) : FVec Ideal S16384x2x26 .f32) (ix3 b t n)
      = ((Real.exp (f b t n - M) : ℝ) : EReal) := by
  obtain ⟨M, hM⟩ := fold_max_coe fun n => f b t n
  refine ⟨M, fun n => ?_⟩
  pointwise [h]
  rw [ofBits_bot, hM, max_eq_right bot_le, ← EReal.coe_sub, Ideal.exp_coe]

/-- Whether two fields are the same. -/
theorem eye_eq (m n : Fin 26) : (FloatOps.uitofp (F := Ideal) FTy.f32
    (IntOp.cmpi CmpIPredicate.eq (IntOp.addi (BitVec.ofNat 32 m.val) 0#32) (BitVec.ofNat 32 n.val))) = (if m = n then (1 : EReal) else 0) := by
  have e : IntOp.cmpi CmpIPredicate.eq (IntOp.addi (BitVec.ofNat 32 m.val) 0#32) (BitVec.ofNat 32 n.val) = BitVec.ofBool (decide (m = n)) := by
    revert m n; decide +kernel
  rw [e, uitofp_ite]

include A

/-- The rows, once for each graph. -/
theorem x_at (b : Fin 16384) (t : Fin 2) (n : Fin 26) (d : Fin 16) :
    (res_main_v1 V0 : FVec Ideal S16384x2x26x16 .f32) (ix4 b t n d) = ((X b n d : ℝ) : EReal) := by
  pointwise [res_main_v1, A.x]

/-- The adjacency. -/
theorem adj_at (t : Fin 2) (m n : Fin 26) :
    (res_main_v10 V0 : FVec Ideal S2x26x26 .f32) (ix3 t m n) = ((adj (p t) m n : ℝ) : EReal) := by
  pointwise [res_main_v10, A.msk]
  rw [← EReal.coe_mul, ← EReal.coe_mul, ← EReal.coe_zero, max_coe]; rfl

/-- The link mask. -/
theorem link_at (t : Fin 2) (m n : Fin 26) :
    (res_main_v13 V0 : FVec Ideal S2x26x26 .f32) (ix3 t m n) = ((link (p t) m n : ℝ) : EReal) := by
  pointwise [res_main_v13, adj_at A]
  rw [uitofp_ite, link]
  by_cases hz : adj (p t) m n = 0
  · rw [if_pos hz, if_neg (by rw [hz]; simp)]; simp
  · rw [if_neg hz, if_pos (fun e => hz (by exact_mod_cast e))]; simp

/-- The adjacency transposed. -/
theorem adjT_at (t : Fin 2) (n m : Fin 26) :
    (res_main_v14 V0 : FVec Ideal S2x26x26 .f32) (ix3 t n m) = ((adj (p t) m n : ℝ) : EReal) := by
  pointwise [res_main_v14, adj_at A]

/-- The adjacency less its column means. -/
theorem cen_at (t : Fin 2) (n m : Fin 26) :
    (res_main_call1_v5 V0 : FVec Ideal S2x26x26 .f32) (ix3 t n m) = ((adj (p t) m n - mu (p t) n : ℝ) : EReal) := by
  pointwise [res_main_call1_v5, adjT_at A]
  rw [ofBits_26, sum_coe, div_coe (by norm_num), ← EReal.coe_sub]; rfl

/-- The number of sources. -/
theorem cnt_at : (res_main_call1_v8 V0 : FVec Ideal S_ .f32) ix0 = ((26 : ℝ) : EReal) := by
  pointwise [res_main_call1_v8]
  have h : (FloatOps.sitofp (F := Ideal) FTy.f32 (0#32)) = ((0 : ℝ) : EReal) := by
    show (((0#32 : BitVec 32).toInt : ℝ) : EReal) = _
    simp
  rw [h, ofBits_26, ← EReal.coe_sub, sub_zero]

/-- The scores. -/
theorem score_at (t : Fin 2) (m n : Fin 26) :
    (res_main_v47 V0 : FVec Ideal S2x26x26 .f32) (ix3 t m n) = ((score (p t) m n : ℝ) : EReal) := by
  pointwise [res_main_v47, adjT_at A, cen_at A, cnt_at A, link_at A, A.lw t, A.lb t]
  have hp : (0 : EReal) < ((26 : ℝ) : EReal) := by exact_mod_cast (by norm_num : (0 : ℝ) < 26)
  rw [if_pos hp, eye_eq, ofBits_26, ofBits_eps, ofBits_big, ite_coe]
  simp only [← EReal.coe_mul, sum_coe]
  rw [div_coe (by norm_num), div_coe (by norm_num), ← EReal.coe_add,
    show (∑ x, (adj (p t) x n - mu (p t) n) * (adj (p t) x n - mu (p t) n)) / 26 = var (p t) n from rfl,
    show (∑ x, adj (p t) x n) / 26 = mu (p t) n from rfl, sqrt_coe (var_pos (p t) n), ← EReal.coe_sub,
    div_coe (Real.sqrt_pos.2 (var_pos (p t) n)).ne']
  simp only [← EReal.coe_one, ← EReal.coe_sub, ← EReal.coe_mul, ← EReal.coe_add]
  rw [div_eq_mul_inv]; rfl

/-- The exponentials of the scores, up to a common factor. -/
theorem expo_at (t : Fin 2) (n : Fin 26) : ∃ M : ℝ, ∀ m,
    (res_main_v54 V0 : FVec Ideal S2x26x26 .f32) (ix3 t m n) = ((Real.exp (score (p t) m n - M) : ℝ) : EReal) :=
  exp_mid (res_main_v47 V0) (fun t m n => score (p t) m n) (score_at A) t n

/-- The linear layer. -/
theorem hid_at (b : Fin 16384) (t : Fin 2) (n : Fin 26) (d : Fin 16) :
    (res_main_v89 V0 : FVec Ideal S16384x2x26x16 .f32) (ix4 b t n d) = ((hid (p t) (X b) n d : ℝ) : EReal) := by
  obtain ⟨M, hM⟩ := expo_at A t n
  pointwise [res_main_v89, x_at A, link_at A, A.W, A.gb, hM]
  have key : ∀ (k : Fin 32) (c : ℝ) (u v w z : EReal), u = (((p t).rm n k : ℝ) : EReal) → v = (((p t).rv n k : ℝ) : EReal) →
      w = (((p t).bw n k : ℝ) : EReal) → z = (((p t).bb n k : ℝ) : EReal) →
      Ideal.div (((c : ℝ) : EReal) - u) (Ideal.sqrt (v + Ideal.ofBits FTy.f32 0x3727C5AC#32)) * w + z
      = (((c - (p t).rm n k) / Real.sqrt ((p t).rv n k + eps) * (p t).bw n k + (p t).bb n k : ℝ) : EReal) := fun k c u v w z hu hv hw hz => by
    rw [hu, hv, hw, hz, ofBits_eps, ← EReal.coe_add, sqrt_coe ((p t).rv_pos n k),
      ← EReal.coe_sub, div_coe (Real.sqrt_pos.2 ((p t).rv_pos n k)).ne', ← EReal.coe_mul, ← EReal.coe_add]
  have inner : ∀ e : Fin 16, (∑ m, ((X b m e : ℝ) : EReal) * (Ideal.div ((Real.exp (score (p t) m n - M) : ℝ) : EReal)
      (∑ l, ((Real.exp (score (p t) l n - M) : ℝ) : EReal)) * ((link (p t) m n : ℝ) : EReal))) = ((nei (p t) (X b) n e : ℝ) : EReal) := fun e => by
    rw [sum_coe]
    simp only [div_coe (sum_exp_ne _), softmax_shift (fun l => score (p t) l n), ← EReal.coe_mul, sum_coe]; rfl
  rw [hid, sum_lo_hi, EReal.coe_add, EReal.coe_add, ← sum_coe, ← sum_coe]
  refine congrArg₂ (· + ·) (congrArg₂ (· + ·) (Finset.sum_congr rfl fun e _ => ?_) (Finset.sum_congr rfl fun e _ => ?_)) rfl
  · rw [EReal.coe_mul, Spec.norm, cat_lo]
    exact congrArg₂ (· * ·) (key (lo e) _ _ _ _ _ (A.rm t n _ _ rfl) (A.rv t n _ _ rfl) (A.bw t n _ _ rfl) (A.bb t n _ _ rfl)) rfl
  · rw [EReal.coe_mul, Spec.norm, cat_hi, inner e]
    exact congrArg₂ (· * ·) (key (hi e) _ _ _ _ _ (A.rm t n _ _ rfl) (A.rv t n _ _ rfl) (A.bw t n _ _ rfl) (A.bb t n _ _ rfl)) rfl

/-- The gate's scores. -/
theorem gate_at (b : Fin 16384) (t : Fin 2) (n : Fin 26) :
    (res_main_v94 V0 : FVec Ideal S16384x2x26 .f32) (ix3 b t n) = ((gate (p t) (X b) n : ℝ) : EReal) := by
  pointwise [res_main_v94, hid_at A, A.gw t, A.gg t]
  simp only [← EReal.coe_mul, sum_coe, ← EReal.coe_add]; rfl

/-- The exponentials of the gate's scores, up to a common factor. -/
theorem gexp_at (b : Fin 16384) (t : Fin 2) : ∃ M : ℝ, ∀ n,
    (res_main_v101 V0 : FVec Ideal S16384x2x26 .f32) (ix3 b t n) = ((Real.exp (gate (p t) (X b) n - M) : ℝ) : EReal) :=
  exp_last (res_main_v94 V0) (fun b t n => gate (p t) (X b) n) (gate_at A) b t

/-- The result. -/
theorem res_at (b : Fin 16384) (t : Fin 2) (d : Fin 16) :
    (Host.reduceAdd (mulf (res_main_v89 V0) (broadcastInDim S16384x2x26x16 ![0, 1, 2, 3] bcast_S16384x2x26x1_S16384x2x26x16_0_1_2_3 (broadcastInDim S16384x2x26x1 ![0, 1, 2] bcast_S16384x2x26_S16384x2x26x1_0_1_2 (Host.divf (res_main_v101 V0) (broadcastInDim S16384x2x26 ![0, 1, 2] bcast_S16384x2x1_S16384x2x26_0_1_2 (broadcastInDim S16384x2x1 ![0, 1] bcast_S16384x2_S16384x2x1_0_1 (Host.reduceAdd (res_main_v101 V0) (constant S_ .f32 0x00000000#32) reducesTo_S16384x2x26_S16384x2_d2 h_S_))))))) (constant S_ .f32 0x00000000#32) reducesTo_S16384x2x26x16_S16384x2x16_d2 h_S_ : FVec Ideal S16384x2x16 .f32)
      (ix3 b t d) = ((res (p t) (X b) d : ℝ) : EReal) := by
  obtain ⟨M, hM⟩ := gexp_at A b t
  pointwise [hid_at A, hM]
  rw [sum_coe]
  simp only [div_coe (sum_exp_ne _), softmax_shift, ← EReal.coe_mul, sum_coe]; rfl

end Cert.Reference

end
-- ==== Proof.Given.lean ====
/- What the precondition says: every argument is a real number, and the moving variance plus the epsilon is positive.
   From it, the reals of the specification. -/
module

public import proofs.«01_k».proof.Defs
public import proofs.«01_k».proof.Proof.Blocks
public import proofs.«01_k».proof.Proof.Reference
public import Idealize.ShloMosaic.Lib.ReduceAll
public import Idealize.ShloMosaic.Lib.Affine

@[expose] public section

set_option maxRecDepth 16384

noncomputable section

namespace Cert.Given

open Idealize.ShloMosaic Idealize.ShloMosaic.TcCoe Idealize.SL.Sem
open Cert.Lift Cert.Spec Cert.Pre_finite_inputs

/-- The shape relations of the predicate's operations. -/
instance facts : Cert.Pre_finite_inputs.Facts where
  bcast_S_S16384x26x16 := by decide
  reducesTo_S16384x26x16_S_d0_1_2 := by decide
  h_S_ := by decide
  bcast_S_S2x3x26x26 := by decide
  reducesTo_S2x3x26x26_S_d0_1_2_3 := by decide
  bcast_S_S1x2x1x32x16 := by decide
  reducesTo_S1x2x1x32x16_S_d0_1_2_3_4 := by decide
  bcast_S_S2x1x26x16 := by decide
  reducesTo_S2x1x26x16_S_d0_1_2_3 := by decide
  bcast_S_S26 := by decide
  reducesTo_S26_S_d0 := by decide
  bcast_S_S1664 := by decide
  reducesTo_S1664_S_d0 := by decide
  bcast_S_S416x26 := by decide
  reducesTo_S416x26_S_d0_1 := by decide

/-- The word of plus infinity is the greatest extended real. -/
theorem ofBits_top : (Ideal.ofBits .f32 0x7F800000#32 : EReal) = ⊤ := by
  simp [Ideal.ofBits, Ideal.ieee]

/-- A comparison that is one holds. -/
theorem of_ofBool {P : Prop} [Decidable P] (h : BitVec.ofBool (decide P) = 1#1) : P := by
  by_contra hn
  rw [decide_eq_false hn] at h
  exact absurd h (by decide)

/-- A conjunction of two words that is one has both at one. -/
theorem and_one {a b : IVec S_ 1} {j : S_.Idx} (h : andi a b j = 1#1) : a j = 1#1 ∧ b j = 1#1 :=
  IntOp.andi_eq_one.mp h

/-- There is one index of a shape of no axes. -/
instance : Subsingleton S_.Idx := ⟨fun a b => funext fun k => k.elim0⟩

/-- An array all of whose absolute values are below plus infinity is an array of reals. -/
theorem real_of {S : Shape} {axes : List (Fin S.rank)} (x : FVec Ideal S .f32) (hb : S_.BroadcastsInDim S (![] : Fin 0 → Fin S.rank))
    (hr : S.ReducesTo axes S_) (hu : 0 < S_.numel) (j : S_.Idx)
    (h : Host.reduce IntOp.andi (cmpf .olt (Host.absf x) (broadcastInDim S ![] hb (constant S_ .f32 0x7F800000#32))) (constantI S_ 1 1#1) hr hu j = 1#1)
    (i : S.Idx) : x i = (((x i : EReal).toReal : ℝ) : EReal) := by
  have h1 := Host.reduce_andi_all _ _ hr hu j h i
  have h2 : max (x i : EReal) (-(x i : EReal)) < Ideal.ofBits .f32 0x7F800000#32 := of_ofBool h1
  rw [ofBits_top] at h2
  have hlt := max_lt_iff.mp h2
  refine (exists_real (x := x i) (fun hx => ?_) (fun hx => ?_)).symm
  · rw [hx] at hlt; exact absurd hlt.2 (by simp)
  · rw [hx] at hlt; exact absurd hlt.1 (by simp)

/-- An array whose elements plus the epsilon are all above zero. -/
theorem pos_of {S : Shape} {axes : List (Fin S.rank)} (x : FVec Ideal S .f32) (hb : S_.BroadcastsInDim S (![] : Fin 0 → Fin S.rank))
    (hr : S.ReducesTo axes S_) (hu : 0 < S_.numel) (j : S_.Idx)
    (h : Host.reduce IntOp.andi (cmpf .ogt (addf x (broadcastInDim S ![] hb (constant S_ .f32 0x3727C5AC#32)))
      (broadcastInDim S ![] hb (constant S_ .f32 0x00000000#32))) (constantI S_ 1 1#1) hr hu j = 1#1)
    (i : S.Idx) : (Ideal.ofBits .f32 0x00000000#32 : EReal) < (x i : EReal) + Ideal.ofBits .f32 0x3727C5AC#32 :=
  of_ofBool (Host.reduce_andi_all _ _ hr hu j h i)

/-- Every argument is real, and the moving variance plus the epsilon is positive. -/
structure Good (a0 : FVec Ideal S16384x26x16 .f32) (a1 : FVec Ideal S2x3x26x26 .f32) (a2 : FVec Ideal S1x2x1x32x16 .f32) (a3 : FVec Ideal S2x1x26x16 .f32) (a4 : FVec Ideal S26 .f32) (a5 : FVec Ideal S26 .f32) (a6 : FVec Ideal S1664 .f32) (a7 : FVec Ideal S1664 .f32) (a8 : FVec Ideal S1664 .f32) (a9 : FVec Ideal S1664 .f32) (a10 : FVec Ideal S416x26 .f32) (a11 : FVec Ideal S26 .f32) : Prop where
  r0 : ∀ i, a0 i = (((a0 i : EReal).toReal : ℝ) : EReal)
  r1 : ∀ i, a1 i = (((a1 i : EReal).toReal : ℝ) : EReal)
  r2 : ∀ i, a2 i = (((a2 i : EReal).toReal : ℝ) : EReal)
  r3 : ∀ i, a3 i = (((a3 i : EReal).toReal : ℝ) : EReal)
  r4 : ∀ i, a4 i = (((a4 i : EReal).toReal : ℝ) : EReal)
  r5 : ∀ i, a5 i = (((a5 i : EReal).toReal : ℝ) : EReal)
  r6 : ∀ i, a6 i = (((a6 i : EReal).toReal : ℝ) : EReal)
  r7 : ∀ i, a7 i = (((a7 i : EReal).toReal : ℝ) : EReal)
  r8 : ∀ i, a8 i = (((a8 i : EReal).toReal : ℝ) : EReal)
  r9 : ∀ i, a9 i = (((a9 i : EReal).toReal : ℝ) : EReal)
  r10 : ∀ i, a10 i = (((a10 i : EReal).toReal : ℝ) : EReal)
  r11 : ∀ i, a11 i = (((a11 i : EReal).toReal : ℝ) : EReal)
  pos : ∀ i, (Ideal.ofBits .f32 0x00000000#32 : EReal) < (a9 i : EReal) + Ideal.ofBits .f32 0x3727C5AC#32

variable {a0 : FVec Ideal S16384x26x16 .f32} {a1 : FVec Ideal S2x3x26x26 .f32} {a2 : FVec Ideal S1x2x1x32x16 .f32} {a3 : FVec Ideal S2x1x26x16 .f32} {a4 : FVec Ideal S26 .f32} {a5 : FVec Ideal S26 .f32} {a6 : FVec Ideal S1664 .f32} {a7 : FVec Ideal S1664 .f32} {a8 : FVec Ideal S1664 .f32} {a9 : FVec Ideal S1664 .f32} {a10 : FVec Ideal S416x26 .f32} {a11 : FVec Ideal S26 .f32}

/-- The predicate is one exactly when it says so. -/
theorem good_of (h : Cert.Pre_finite_inputs.fn (F := Ideal) a0 a1 a2 a3 a4 a5 a6 a7 a8 a9 a10 a11 = fun _ => 1#1) : Good a0 a1 a2 a3 a4 a5 a6 a7 a8 a9 a10 a11 := by
  have h := congrFun h (fun k => k.elim0)
  dsimp only [fn, fn_part1, fn_part2, fn_part3] at h
  obtain ⟨h, r11⟩ := and_one h
  obtain ⟨h, r10⟩ := and_one h
  obtain ⟨h, pos⟩ := and_one h
  obtain ⟨h, r9⟩ := and_one h
  obtain ⟨h, r8⟩ := and_one h
  obtain ⟨h, r7⟩ := and_one h
  obtain ⟨h, r6⟩ := and_one h
  obtain ⟨h, r5⟩ := and_one h
  obtain ⟨h, r4⟩ := and_one h
  obtain ⟨h, r3⟩ := and_one h
  obtain ⟨h, r2⟩ := and_one h
  obtain ⟨h, r1⟩ := and_one h
  exact {
    r0 := real_of _ _ _ _ _ h
    r1 := real_of _ _ _ _ _ r1
    r2 := real_of _ _ _ _ _ r2
    r3 := real_of _ _ _ _ _ r3
    r4 := real_of _ _ _ _ _ r4
    r5 := real_of _ _ _ _ _ r5
    r6 := real_of _ _ _ _ _ r6
    r7 := real_of _ _ _ _ _ r7
    r8 := real_of _ _ _ _ _ r8
    r9 := real_of _ _ _ _ _ r9
    pos := pos_of _ _ _ _ _ pos
    r10 := real_of _ _ _ _ _ r10
    r11 := real_of _ _ _ _ _ r11
  }

variable (H : Good a0 a1 a2 a3 a4 a5 a6 a7 a8 a9 a10 a11)
include H

/-- The real moving variance plus the epsilon is positive. -/
theorem rv_pos (i : S1664.Idx) : 0 < (a9 i : EReal).toReal + eps := by
  have h := H.pos i
  have hz : (Ideal.ofBits .f32 0x00000000#32 : EReal) = ((0 : ℝ) : EReal) := by simp [Ideal.ofBits, Ideal.ieee]
  rw [H.r9 i, ofBits_eps, hz, ← EReal.coe_add] at h
  exact EReal.coe_lt_coe_iff.mp h

/-- The parameters of graph `t`. -/
def par (t : Fin 2) : Par where
  msk a i n := (a1 (ix4 t a i n) : EReal).toReal
  lw n := (a4 (ix1 n) : EReal).toReal
  lb n := (a5 (ix1 n) : EReal).toReal
  bw n k := (a6 (ix1 ⟨t.val * 832 + n.val * 32 + k.val, by omega⟩) : EReal).toReal
  bb n k := (a7 (ix1 ⟨t.val * 832 + n.val * 32 + k.val, by omega⟩) : EReal).toReal
  rm n k := (a8 (ix1 ⟨t.val * 832 + n.val * 32 + k.val, by omega⟩) : EReal).toReal
  rv n k := (a9 (ix1 ⟨t.val * 832 + n.val * 32 + k.val, by omega⟩) : EReal).toReal
  rv_pos n k := rv_pos H _
  W k d := (a2 (ix5 0 t 0 k d) : EReal).toReal
  gb n d := (a3 (ix4 t 0 n d) : EReal).toReal
  gw k n := (a10 (ix2 k n) : EReal).toReal
  gg n := (a11 (ix1 n) : EReal).toReal

omit H in
/-- The rows. -/
def row (a0 : FVec Ideal S16384x26x16 .f32) (b : Fin 16384) (n : Fin 26) (d : Fin 16) : ℝ := (a0 (ix3 b n d) : EReal).toReal

omit H in
/-- An element of a vector of 1664 at an index given by its number. -/
theorem at_val (x : FVec Ideal S1664 .f32) (hx : ∀ i, x i = (((x i : EReal).toReal : ℝ) : EReal)) (i : Fin 1664) (n : ℕ) (hn : n < 1664) (h : i.val = n) :
    x (ix1 i) = (((x (ix1 ⟨n, hn⟩) : EReal).toReal : ℝ) : EReal) := by
  subst h
  exact hx _

end Cert.Given

namespace Cert.Given

open Idealize.ShloMosaic Idealize.ShloMosaic.TcCoe Idealize.SL.Sem
open Cert.Lift Cert.Spec Cert.Pre_finite_inputs

/-- The kernel's arguments are these reals. -/
theorem kernelArgs (m : (ℓ : Loc Cert.KernelIdeal.nD Cert.KernelIdeal.τ Cert.KernelIdeal.sig) → Buf (Elt Ideal) ℓ) (c : Dev Cert.KernelIdeal.nD)
    (H : Good (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11))) :
    Cert.Blocks.Args m c (par H) (row (m ((c : Thread Cert.KernelIdeal.nD Cert.KernelIdeal.τ).loc Cert.KernelIdeal.main_arg0))) where
  x := fun b n d => H.r0 _
  msk := fun t a i n => H.r1 _
  W := fun t k d => H.r2 _
  gb := fun t n d => H.r3 _
  lw := fun t n => H.r4 _
  lb := fun t n => H.r5 _
  bw := fun t n k i hi => at_val _ H.r6 i _ _ hi
  bb := fun t n k i hi => at_val _ H.r7 i _ _ hi
  rm := fun t n k i hi => at_val _ H.r8 i _ _ hi
  rv := fun t n k i hi => at_val _ H.r9 i _ _ hi
  gw := fun t k n => H.r10 _
  gg := fun t n => H.r11 _

/-- The reference's arguments are these reals. -/
theorem referenceArgs {a0 : FVec Ideal S16384x26x16 .f32} {a1 : FVec Ideal S2x3x26x26 .f32} {a2 : FVec Ideal S1x2x1x32x16 .f32} {a3 : FVec Ideal S2x1x26x16 .f32} {a4 : FVec Ideal S26 .f32} {a5 : FVec Ideal S26 .f32} {a6 : FVec Ideal S1664 .f32} {a7 : FVec Ideal S1664 .f32} {a8 : FVec Ideal S1664 .f32} {a9 : FVec Ideal S1664 .f32} {a10 : FVec Ideal S416x26 .f32} {a11 : FVec Ideal S26 .f32} (V0 : Valuation Cert.ReferenceIdeal.τ Cert.ReferenceIdeal.sig (Elt Ideal))
    (H : Good a0 a1 a2 a3 a4 a5 a6 a7 a8 a9 a10 a11) (e0 : V0 (Proc.devRef .tc Cert.ReferenceIdeal.main_arg0) = a0) (e1 : V0 (Proc.devRef .tc Cert.ReferenceIdeal.main_arg1) = a1) (e2 : V0 (Proc.devRef .tc Cert.ReferenceIdeal.main_arg2) = a2) (e3 : V0 (Proc.devRef .tc Cert.ReferenceIdeal.main_arg3) = a3) (e4 : V0 (Proc.devRef .tc Cert.ReferenceIdeal.main_arg4) = a4) (e5 : V0 (Proc.devRef .tc Cert.ReferenceIdeal.main_arg5) = a5) (e6 : V0 (Proc.devRef .tc Cert.ReferenceIdeal.main_arg6) = a6) (e7 : V0 (Proc.devRef .tc Cert.ReferenceIdeal.main_arg7) = a7) (e8 : V0 (Proc.devRef .tc Cert.ReferenceIdeal.main_arg8) = a8) (e9 : V0 (Proc.devRef .tc Cert.ReferenceIdeal.main_arg9) = a9) (e10 : V0 (Proc.devRef .tc Cert.ReferenceIdeal.main_arg10) = a10) (e11 : V0 (Proc.devRef .tc Cert.ReferenceIdeal.main_arg11) = a11) :
    Cert.Reference.Args V0 (par H) (row a0) := by
  subst e0 e1 e2 e3 e4 e5 e6 e7 e8 e9 e10 e11
  exact {
    x := fun b n d => H.r0 _
    msk := fun t a i n => H.r1 _
    W := fun t k d => H.r2 _
    gb := fun t n d => H.r3 _
    lw := fun t n => H.r4 _
    lb := fun t n => H.r5 _
    bw := fun t n k i hi => at_val _ H.r6 i _ _ hi
    bb := fun t n k i hi => at_val _ H.r7 i _ _ hi
    rm := fun t n k i hi => at_val _ H.r8 i _ _ hi
    rv := fun t n k i hi => at_val _ H.r9 i _ _ hi
    gw := fun t k n => H.r10 _
    gg := fun t n => H.r11 _
  }

end Cert.Given

end
-- ==== Proof.lean ====
module

public import proofs.«01_k».proof.Defs
public import proofs.«01_k».proof.Proof.Gen.Kernel
public import proofs.«01_k».proof.Proof.KernelFrame
public import proofs.«01_k».proof.Proof.Gen.KernelIdeal
public import proofs.«01_k».proof.Proof.Gen.ReferenceIdeal
public import proofs.«01_k».proof.Proof.Gen.ReferenceIdeal.Run
public import proofs.«01_k».proof.Proof.Final
public import proofs.«01_k».proof.Proof.Given
public import Idealize.ShloMosaic.Adequacy
public import Idealize.ShloMosaic.Init
public import Idealize.ShloMosaic.Lib.Claim

@[expose] public section

set_option maxRecDepth 16384

noncomputable section

namespace Cert.Proof

open Idealize.ShloMosaic Idealize.ShloMosaic.TcCoe Idealize.SL.Sem
open Cert.Spec

/-- Every execution of the kernel ends with its arguments unchanged and its counters at zero. -/
theorem frame_Kernel : Cert.quiescent_Kernel := fun m g _ => Cert.Kernel.Gen.frame m g

/-- The same of the idealised kernel. -/
theorem frame_KernelIdeal : Cert.quiescent_KernelIdeal := fun m g _ => Cert.KernelIdeal.Gen.frame m g

/-- The same under the precondition. -/
theorem frame_KernelIdeal_pre : Cert.quiescent_KernelIdeal_pre_finite_inputs := fun m g _ => Cert.KernelIdeal.Gen.frame m g

/-- The same of the reference. -/
theorem frame_ReferenceIdeal : Cert.quiescent_ReferenceIdeal := by
  intro m g _
  exact θ_run_mono (Cert.ReferenceIdeal.Value.run m g) fun r h => ⟨fun c => (h c).2, sem_eq_zero_of_no_sems (by decide) r.2⟩

/-- The same of the reference under the precondition. -/
theorem frame_ReferenceIdeal_pre : Cert.quiescent_ReferenceIdeal_pre_finite_inputs := by
  intro m g _
  exact θ_run_mono (Cert.ReferenceIdeal.Value.run m g) fun r h => ⟨fun c => (h c).2, sem_eq_zero_of_no_sems (by decide) r.2⟩

/-- The kernel's result is the reference's, in exact arithmetic. -/
theorem algebraic : Cert.algebraic_KernelIdeal_ReferenceIdeal_pre_finite_inputs := by
  intro m g m' g' hpre hagree
  refine ⟨fun c => _, Cert.Final.run m g, θ_run_mono (Cert.ReferenceIdeal.Value.run m' g') fun r h c => ⟨(h c).1.trans ?_, ?_⟩⟩
  · have H := Cert.Given.good_of (hpre c)
    obtain ⟨e0, e1, e2, e3, e4, e5, e6, e7, e8, e9, e10, e11⟩ := hagree c
    have R := Cert.Given.referenceArgs (Idealize.ShloMosaic.StableHlo.launchContents m' c) H e0 e1 e2 e3 e4 e5 e6 e7 e8 e9 e10 e11
    refine Eq.trans ?_ (congrArg (fun Z : FVec Ideal Cert.KernelIdeal.S16384x32 .f32 => shapeCast Cert.KernelIdeal.S16384x2x16 Z
      Cert.KernelIdeal.Gen.shapeCasts_S16384x32_S16384x2x16) (Cert.Final.final (Cert.Given.kernelArgs m c H))).symm
    funext i
    obtain ⟨b, t, d, rfl⟩ : ∃ (b : Fin 16384) (t : Fin 2) (d : Fin 16), i = (ix3 b t d : Cert.KernelIdeal.S16384x2x16.Idx) :=
      ⟨i 0, i 1, i 2, eq_ix3 (n0 := 16384) (n1 := 2) (n2 := 16) i⟩
    exact (Cert.Reference.res_at R b t d).trans (Cert.Final.reshaped_at _ _ b t d).symm
  · exact (h c).2

/-- Everything the certificate claims. -/
theorem claim : Cert.Claim := ⟨Cert.Kernel.Gen.facts, Cert.KernelIdeal.Gen.facts, Cert.ReferenceIdeal.Gen.facts, Cert.Given.facts,
  frame_Kernel, frame_KernelIdeal, frame_KernelIdeal_pre, frame_ReferenceIdeal, frame_ReferenceIdeal_pre, trivial, algebraic⟩

end Cert.Proof

end
